-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_n" .f32 0x3D124925#32 ((1 / 28 : ℝ) : EReal)
  ∧ IdealRules.named_const.Statement Cert.KernelIdeal.κ "tenth" .f32 0x3DCCCCCD#32 ((1 / 10 : ℝ) : EReal)
  ∧ IdealRules.named_const.Statement Cert.KernelIdeal.κ "inv_bc2" .f32 0x3FC78729#32 ((104857600000000000000000000 / 67267626542454041806644399 : ℝ) : EReal)
  ∧ IdealRules.named_const.Statement Cert.KernelIdeal.κ "lr_inv_bc1" .f32 0x3C3A8418#32 ((1000000000000000000 / 87842334540943071199 : ℝ) : EReal)
  ∧ IdealRules.named_const.Statement Cert.KernelIdeal.κ "lr_wd" .f32 0x3A83126F#32 ((1 / 1000 : ℝ) : EReal)

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v2) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S28x256x14336 : Shape := ⟨3, ![28, 256, 14336]⟩
abbrev S28x256x112 : Shape := ⟨3, ![28, 256, 112]⟩
abbrev S256x14336 : Shape := ⟨2, ![256, 14336]⟩
abbrev S_ : Shape := ⟨0, ![]⟩

class Facts : Prop where
  bitsLt_bf16_f32 : FTy.bits .bf16 < FTy.bits .f32
  bcast_S_S256x14336 : S_.BroadcastsInDim S256x14336 (![] : Fin 0 → Fin S256x14336.rank)

variable [Facts]

def fn {F : FTy → Type} [FloatOps F] (main_arg0 : FVec F S28x256x14336 .fp8e5m2) (main_arg1 : FVec F S28x256x112 .f32) (main_arg2 : FVec F S256x14336 .bf16) (main_arg3 : FVec F S256x14336 .bf16) (main_arg4 : FVec F S256x14336 .f32) (main_arg5 : FVec F S256x14336 .f32) : IVec S256x14336 1 :=
  let main_v0 : FVec F S256x14336 .f32 := (extf .f32 · bitsLt_bf16_f32) main_arg2
  let main_v1 : FVec F S256x14336 .f32 := (extf .f32 · bitsLt_bf16_f32) main_arg3
  let main_cst : FVec F S_ .f32 := constant S_ .f32 0x00000000#32
  let main_v2 : FVec F S256x14336 .f32 := broadcastInDim S256x14336 ![] bcast_S_S256x14336 main_cst
  let main_v3 : IVec S256x14336 1 := cmpf .oge main_arg5 main_v2
  let main_v4 : FVec F S256x14336 .f32 := Host.absf main_arg4
  let main_cst_0 : FVec F S_ .f32 := constant S_ .f32 0x5F800000#32
  let main_v5 : FVec F S256x14336 .f32 := broadcastInDim S256x14336 ![] bcast_S_S256x14336 main_cst_0
  let main_v6 : IVec S256x14336 1 := cmpf .ole main_v4 main_v5
  let main_v7 : IVec S256x14336 1 := andi main_v3 main_v6
  let main_v8 : FVec F S256x14336 .f32 := Host.absf main_v0
  let main_cst_1 : FVec F S_ .f32 := constant S_ .f32 0x71800000#32
  let main_v9 : FVec F S256x14336 .f32 := broadcastInDim S256x14336 ![] bcast_S_S256x14336 main_cst_1
  let main_v10 : IVec S256x14336 1 := cmpf .ole main_v8 main_v9
  let main_v11 : IVec S256x14336 1 := andi main_v7 main_v10
  let main_v12 : FVec F S256x14336 .f32 := Host.absf main_v1
  let main_cst_2 : FVec F S_ .f32 := constant S_ .f32 0x71800000#32
  let main_v13 : FVec F S256x14336 .f32 := broadcastInDim S256x14336 ![] bcast_S_S256x14336 main_cst_2
  let main_v14 : IVec S256x14336 1 := cmpf .ole main_v12 main_v13
  let main_v15 : IVec S256x14336 1 := andi main_v11 main_v14
  main_v15
-- ==== Kernel.lean ====
abbrev S28x256x14336 : Shape := ⟨3, ![28, 256, 14336]⟩
abbrev S28x256x112 : Shape := ⟨3, ![28, 256, 112]⟩
abbrev S256x14336 : Shape := ⟨2, ![256, 14336]⟩
abbrev S28x112x256 : Shape := ⟨3, ![28, 112, 256]⟩
abbrev S112x256 : Shape := ⟨2, ![112, 256]⟩
abbrev S28x32x2048 : Shape := ⟨3, ![28, 32, 2048]⟩
abbrev S28x16x256 : Shape := ⟨3, ![28, 16, 256]⟩
abbrev S32x2048 : Shape := ⟨2, ![32, 2048]⟩
abbrev S16x256 : Shape := ⟨2, ![16, 256]⟩
abbrev S256x128 : Shape := ⟨2, ![256, 128]⟩
abbrev S32x128 : Shape := ⟨2, ![32, 128]⟩
abbrev S8x128 : Shape := ⟨2, ![8, 128]⟩
abbrev S1x8x128 : Shape := ⟨3, ![1, 8, 128]⟩
abbrev S1x128 : Shape := ⟨2, ![1, 128]⟩
abbrev S32x896 : Shape := ⟨2, ![32, 896]⟩
abbrev S64x896 : Shape := ⟨2, ![64, 896]⟩
abbrev S28x32x256 : Shape := ⟨3, ![28, 32, 256]⟩
abbrev S896x256 : Shape := ⟨2, ![896, 256]⟩
abbrev S64x256 : Shape := ⟨2, ![64, 256]⟩
abbrev S32 : Shape := ⟨1, ![32]⟩
abbrev S32x1 : Shape := ⟨2, ![32, 1]⟩
abbrev S128x256 : Shape := ⟨2, ![128, 256]⟩
abbrev S256x112 : Shape := ⟨2, ![256, 112]⟩

abbrev nBuf : Space → Nat
  | .hbm => 15
  | .vmem => 27
  | .smem => 0
  | _ => 0

abbrev bufTy : (tb : Table) → Fin (tcTables nBuf tb) → BufTy
  | .hbm, ⟨0, _⟩ => ⟨S28x256x14336, .fp8e5m2⟩
  | .hbm, ⟨1, _⟩ => ⟨S28x256x112, .f32⟩
  | .hbm, ⟨2, _⟩ => ⟨S256x14336, .bf16⟩
  | .hbm, ⟨3, _⟩ => ⟨S256x14336, .bf16⟩
  | .hbm, ⟨4, _⟩ => ⟨S256x14336, .f32⟩
  | .hbm, ⟨5, _⟩ => ⟨S256x14336, .f32⟩
  | .hbm, ⟨6, _⟩ => ⟨S28x112x256, .f32⟩
  | .hbm, ⟨7, _⟩ => ⟨S256x14336, .bf16⟩
  | .hbm, ⟨8, _⟩ => ⟨S256x14336, .bf16⟩
  | .hbm, ⟨9, _⟩ => ⟨S256x14336, .f32⟩
  | .hbm, ⟨10, _⟩ => ⟨S256x14336, .f32⟩
  | .hbm, ⟨11, _⟩ => ⟨S256x14336, .f32⟩
  | .hbm, ⟨12, _⟩ => ⟨S256x14336, .fp8e4m3⟩
  | .hbm, ⟨13, _⟩ => ⟨S112x256, .f32⟩
  | .hbm, ⟨14, _⟩ => ⟨S256x112, .f32⟩
  | .local _ .vmem, ⟨0, _⟩ => ⟨S28x32x2048, .fp8e5m2⟩
  | .local _ .vmem, ⟨1, _⟩ => ⟨S28x32x2048, .fp8e5m2⟩
  | .local _ .vmem, ⟨2, _⟩ => ⟨S28x16x256, .f32⟩
  | .local _ .vmem, ⟨3, _⟩ => ⟨S28x16x256, .f32⟩
  | .local _ .vmem, ⟨4, _⟩ => ⟨S32x2048, .bf16⟩
  | .local _ .vmem, ⟨5, _⟩ => ⟨S32x2048, .bf16⟩
  | .local _ .vmem, ⟨6, _⟩ => ⟨S32x2048, .bf16⟩
  | .local _ .vmem, ⟨7, _⟩ => ⟨S32x2048, .bf16⟩
  | .local _ .vmem, ⟨8, _⟩ => ⟨S32x2048, .f32⟩
  | .local _ .vmem, ⟨9, _⟩ => ⟨S32x2048, .f32⟩
  | .local _ .vmem, ⟨10, _⟩ => ⟨S32x2048, .f32⟩
  | .local _ .vmem, ⟨11, _⟩ => ⟨S32x2048, .f32⟩
  | .local _ .vmem, ⟨12, _⟩ => ⟨S32x2048, .bf16⟩
  | .local _ .vmem, ⟨13, _⟩ => ⟨S32x2048, .bf16⟩
  | .local _ .vmem, ⟨14, _⟩ => ⟨S32x2048, .bf16⟩
  | .local _ .vmem, ⟨15, _⟩ => ⟨S32x2048, .bf16⟩
  | .local _ .vmem, ⟨16, _⟩ => ⟨S32x2048, .f32⟩
  | .local _ .vmem, ⟨17, _⟩ => ⟨S32x2048, .f32⟩
  | .local _ .vmem, ⟨18, _⟩ => ⟨S32x2048, .f32⟩
  | .local _ .vmem, ⟨19, _⟩ => ⟨S32x2048, .f32⟩
  | .local _ .vmem, ⟨20, _⟩ => ⟨S32x2048, .f32⟩
  | .local _ .vmem, ⟨21, _⟩ => ⟨S32x2048, .f32⟩
  | .local _ .vmem, ⟨22, _⟩ => ⟨S32x2048, .fp8e4m3⟩
  | .local _ .vmem, ⟨23, _⟩ => ⟨S32x2048, .fp8e4m3⟩
  | .local _ .vmem, ⟨24, _⟩ => ⟨S16x256, .f32⟩
  | .local _ .vmem, ⟨25, _⟩ => ⟨S16x256, .f32⟩
  | .local _ .vmem, ⟨26, _⟩ => ⟨S256x128, .f32⟩
  | _, _ => ⟨S28x256x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![7, 8], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  v0
def k0_mult2 (i : grid0.Coords) : BitVec 32 :=
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  v19
def k0_off1 (i : grid0.Coords) : Fin 3 → Nat :=
  let c0 : Index := 0#32
  let c0_26 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v80 : Index := Scalar.indexCast v20
  ![0, 0, v80.toNat]
def k0_off2 (i : grid0.Coords) : Fin 3 → Nat :=
  let c1 : Index := 1#32
  let c0_34 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v95 : Index := Scalar.indexCast v20
  ![1, 0, v95.toNat]
def k0_off3 (i : grid0.Coords) : Fin 3 → Nat :=
  let c2 : Index := 2#32
  let c0_42 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v113 : Index := Scalar.indexCast v20
  ![2, 0, v113.toNat]
def k0_off4 (i : grid0.Coords) : Fin 3 → Nat :=
  let c3 : Index := 3#32
  let c0_49 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v131 : Index := Scalar.indexCast v20
  ![3, 0, v131.toNat]
def k0_off5 (i : grid0.Coords) : Fin 3 → Nat :=
  let c4 : Index := 4#32
  let c0_56 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v149 : Index := Scalar.indexCast v20
  ![4, 0, v149.toNat]
def k0_off6 (i : grid0.Coords) : Fin 3 → Nat :=
  let c5 : Index := 5#32
  let c0_64 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v164 : Index := Scalar.indexCast v20
  ![5, 0, v164.toNat]
def k0_off7 (i : grid0.Coords) : Fin 3 → Nat :=
  let c6 : Index := 6#32
  let c0_73 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v182 : Index := Scalar.indexCast v20
  ![6, 0, v182.toNat]
def k0_off8 (i : grid0.Coords) : Fin 3 → Nat :=
  let c7 : Index := 7#32
  let c0_82 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v200 : Index := Scalar.indexCast v20
  ![7, 0, v200.toNat]
def k0_off9 (i : grid0.Coords) : Fin 3 → Nat :=
  let c8 : Index := 8#32
  let c0_91 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v218 : Index := Scalar.indexCast v20
  ![8, 0, v218.toNat]
def k0_off10 (i : grid0.Coords) : Fin 3 → Nat :=
  let c9 : Index := 9#32
  let c0_99 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v233 : Index := Scalar.indexCast v20
  ![9, 0, v233.toNat]
def k0_off11 (i : grid0.Coords) : Fin 3 → Nat :=
  let c10 : Index := 10#32
  let c0_108 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v251 : Index := Scalar.indexCast v20
  ![10, 0, v251.toNat]
def k0_off12 (i : grid0.Coords) : Fin 3 → Nat :=
  let c11 : Index := 11#32
  let c0_117 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v269 : Index := Scalar.indexCast v20
  ![11, 0, v269.toNat]
def k0_off13 (i : grid0.Coords) : Fin 3 → Nat :=
  let c12 : Index := 12#32
  let c0_126 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v287 : Index := Scalar.indexCast v20
  ![12, 0, v287.toNat]
def k0_off14 (i : grid0.Coords) : Fin 3 → Nat :=
  let c13 : Index := 13#32
  let c0_134 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v302 : Index := Scalar.indexCast v20
  ![13, 0, v302.toNat]
def k0_off15 (i : grid0.Coords) : Fin 3 → Nat :=
  let c14 : Index := 14#32
  let c0_143 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v320 : Index := Scalar.indexCast v20
  ![14, 0, v320.toNat]
def k0_off16 (i : grid0.Coords) : Fin 3 → Nat :=
  let c15 : Index := 15#32
  let c0_152 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v338 : Index := Scalar.indexCast v20
  ![15, 0, v338.toNat]
def k0_off17 (i : grid0.Coords) : Fin 3 → Nat :=
  let c16 : Index := 16#32
  let c0_161 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v356 : Index := Scalar.indexCast v20
  ![16, 0, v356.toNat]
def k0_off18 (i : grid0.Coords) : Fin 3 → Nat :=
  let c17 : Index := 17#32
  let c0_169 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v371 : Index := Scalar.indexCast v20
  ![17, 0, v371.toNat]
def k0_off19 (i : grid0.Coords) : Fin 3 → Nat :=
  let c18 : Index := 18#32
  let c0_178 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v389 : Index := Scalar.indexCast v20
  ![18, 0, v389.toNat]
def k0_off20 (i : grid0.Coords) : Fin 3 → Nat :=
  let c19 : Index := 19#32
  let c0_187 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v407 : Index := Scalar.indexCast v20
  ![19, 0, v407.toNat]
def k0_off21 (i : grid0.Coords) : Fin 3 → Nat :=
  let c20 : Index := 20#32
  let c0_196 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v425 : Index := Scalar.indexCast v20
  ![20, 0, v425.toNat]
def k0_off22 (i : grid0.Coords) : Fin 3 → Nat :=
  let c21 : Index := 21#32
  let c0_204 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v440 : Index := Scalar.indexCast v20
  ![21, 0, v440.toNat]
def k0_off23 (i : grid0.Coords) : Fin 3 → Nat :=
  let c22 : Index := 22#32
  let c0_213 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v458 : Index := Scalar.indexCast v20
  ![22, 0, v458.toNat]
def k0_off24 (i : grid0.Coords) : Fin 3 → Nat :=
  let c23 : Index := 23#32
  let c0_222 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v476 : Index := Scalar.indexCast v20
  ![23, 0, v476.toNat]
def k0_off25 (i : grid0.Coords) : Fin 3 → Nat :=
  let c24 : Index := 24#32
  let c0_231 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v494 : Index := Scalar.indexCast v20
  ![24, 0, v494.toNat]
def k0_off26 (i : grid0.Coords) : Fin 3 → Nat :=
  let c25 : Index := 25#32
  let c0_239 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v509 : Index := Scalar.indexCast v20
  ![25, 0, v509.toNat]
def k0_off27 (i : grid0.Coords) : Fin 3 → Nat :=
  let c26 : Index := 26#32
  let c0_248 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v527 : Index := Scalar.indexCast v20
  ![26, 0, v527.toNat]
def k0_off28 (i : grid0.Coords) : Fin 3 → Nat :=
  let c27 : Index := 27#32
  let c0_257 : Index := 0#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v545 : Index := Scalar.indexCast v20
  ![27, 0, v545.toNat]
def k0_off29 (i : grid0.Coords) : Fin 3 → Nat :=
  let c0_644 : Index := 0#32
  let c8_645 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1780 : Index := Scalar.indexCast v20
  ![0, 8, v1780.toNat]
def k0_off30 (i : grid0.Coords) : Fin 3 → Nat :=
  let c1_653 : Index := 1#32
  let c8_654 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1795 : Index := Scalar.indexCast v20
  ![1, 8, v1795.toNat]
def k0_off31 (i : grid0.Coords) : Fin 3 → Nat :=
  let c2_663 : Index := 2#32
  let c8_664 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1813 : Index := Scalar.indexCast v20
  ![2, 8, v1813.toNat]
def k0_off32 (i : grid0.Coords) : Fin 3 → Nat :=
  let c3_673 : Index := 3#32
  let c8_674 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1831 : Index := Scalar.indexCast v20
  ![3, 8, v1831.toNat]
def k0_off33 (i : grid0.Coords) : Fin 3 → Nat :=
  let c4_683 : Index := 4#32
  let c8_684 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1849 : Index := Scalar.indexCast v20
  ![4, 8, v1849.toNat]
def k0_off34 (i : grid0.Coords) : Fin 3 → Nat :=
  let c5_692 : Index := 5#32
  let c8_693 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1864 : Index := Scalar.indexCast v20
  ![5, 8, v1864.toNat]
def k0_off35 (i : grid0.Coords) : Fin 3 → Nat :=
  let c6_702 : Index := 6#32
  let c8_703 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1882 : Index := Scalar.indexCast v20
  ![6, 8, v1882.toNat]
def k0_off36 (i : grid0.Coords) : Fin 3 → Nat :=
  let c7_712 : Index := 7#32
  let c8_713 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1900 : Index := Scalar.indexCast v20
  ![7, 8, v1900.toNat]
def k0_off37 (i : grid0.Coords) : Fin 3 → Nat :=
  let c8_722 : Index := 8#32
  let c8_723 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1918 : Index := Scalar.indexCast v20
  ![8, 8, v1918.toNat]
def k0_off38 (i : grid0.Coords) : Fin 3 → Nat :=
  let c9_731 : Index := 9#32
  let c8_732 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1933 : Index := Scalar.indexCast v20
  ![9, 8, v1933.toNat]
def k0_off39 (i : grid0.Coords) : Fin 3 → Nat :=
  let c10_741 : Index := 10#32
  let c8_742 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1951 : Index := Scalar.indexCast v20
  ![10, 8, v1951.toNat]
def k0_off40 (i : grid0.Coords) : Fin 3 → Nat :=
  let c11_751 : Index := 11#32
  let c8_752 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1969 : Index := Scalar.indexCast v20
  ![11, 8, v1969.toNat]
def k0_off41 (i : grid0.Coords) : Fin 3 → Nat :=
  let c12_761 : Index := 12#32
  let c8_762 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v1987 : Index := Scalar.indexCast v20
  ![12, 8, v1987.toNat]
def k0_off42 (i : grid0.Coords) : Fin 3 → Nat :=
  let c13_770 : Index := 13#32
  let c8_771 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2002 : Index := Scalar.indexCast v20
  ![13, 8, v2002.toNat]
def k0_off43 (i : grid0.Coords) : Fin 3 → Nat :=
  let c14_780 : Index := 14#32
  let c8_781 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2020 : Index := Scalar.indexCast v20
  ![14, 8, v2020.toNat]
def k0_off44 (i : grid0.Coords) : Fin 3 → Nat :=
  let c15_790 : Index := 15#32
  let c8_791 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2038 : Index := Scalar.indexCast v20
  ![15, 8, v2038.toNat]
def k0_off45 (i : grid0.Coords) : Fin 3 → Nat :=
  let c16_800 : Index := 16#32
  let c8_801 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2056 : Index := Scalar.indexCast v20
  ![16, 8, v2056.toNat]
def k0_off46 (i : grid0.Coords) : Fin 3 → Nat :=
  let c17_809 : Index := 17#32
  let c8_810 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2071 : Index := Scalar.indexCast v20
  ![17, 8, v2071.toNat]
def k0_off47 (i : grid0.Coords) : Fin 3 → Nat :=
  let c18_819 : Index := 18#32
  let c8_820 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2089 : Index := Scalar.indexCast v20
  ![18, 8, v2089.toNat]
def k0_off48 (i : grid0.Coords) : Fin 3 → Nat :=
  let c19_829 : Index := 19#32
  let c8_830 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2107 : Index := Scalar.indexCast v20
  ![19, 8, v2107.toNat]
def k0_off49 (i : grid0.Coords) : Fin 3 → Nat :=
  let c20_839 : Index := 20#32
  let c8_840 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2125 : Index := Scalar.indexCast v20
  ![20, 8, v2125.toNat]
def k0_off50 (i : grid0.Coords) : Fin 3 → Nat :=
  let c21_848 : Index := 21#32
  let c8_849 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2140 : Index := Scalar.indexCast v20
  ![21, 8, v2140.toNat]
def k0_off51 (i : grid0.Coords) : Fin 3 → Nat :=
  let c22_858 : Index := 22#32
  let c8_859 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2158 : Index := Scalar.indexCast v20
  ![22, 8, v2158.toNat]
def k0_off52 (i : grid0.Coords) : Fin 3 → Nat :=
  let c23_868 : Index := 23#32
  let c8_869 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2176 : Index := Scalar.indexCast v20
  ![23, 8, v2176.toNat]
def k0_off53 (i : grid0.Coords) : Fin 3 → Nat :=
  let c24_878 : Index := 24#32
  let c8_879 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2194 : Index := Scalar.indexCast v20
  ![24, 8, v2194.toNat]
def k0_off54 (i : grid0.Coords) : Fin 3 → Nat :=
  let c25_887 : Index := 25#32
  let c8_888 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2209 : Index := Scalar.indexCast v20
  ![25, 8, v2209.toNat]
def k0_off55 (i : grid0.Coords) : Fin 3 → Nat :=
  let c26_897 : Index := 26#32
  let c8_898 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2227 : Index := Scalar.indexCast v20
  ![26, 8, v2227.toNat]
def k0_off56 (i : grid0.Coords) : Fin 3 → Nat :=
  let c27_907 : Index := 27#32
  let c8_908 : Index := 8#32
  let arg1 : BitVec 32 := BitVec.ofNat 32 (i 1).val
  let c32_i32 : BitVec 32 := 32#32
  let v0 : BitVec 32 := Scalar.muli arg1 c32_i32
  let v1 : BitVec 32 := v0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v2245 : Index := Scalar.indexCast v20
  ![27, 8, v2245.toNat]
def k0_off57 (i : grid0.Coords) : Fin 2 → Nat :=
  let arg1 : BitVec 32 := BitVec.ofNat 32 (i 1).val
  let c32_i32 : BitVec 32 := 32#32
  let v0 : BitVec 32 := Scalar.muli arg1 c32_i32
  let v1 : BitVec 32 := v0
  let v3455 : Index := Scalar.indexCast v1
  let c0_1293 : Index := 0#32
  ![v3455.toNat, 0]
def k0_cond1 (i : grid0.Coords) : BitVec 1 :=
  let arg1 : BitVec 32 := BitVec.ofNat 32 (i 1).val
  let c7_i32_1294 : BitVec 32 := 7#32
  let v3459 : BitVec 1 := Scalar.cmpi .eq arg1 c7_i32_1294
  let v3460 : BitVec 32 := Scalar.extui v3459
  let c0_i32_1295 : BitVec 32 := 0#32
  let v3461 : BitVec 1 := Scalar.cmpi .ne v3460 c0_i32_1295
  v3461

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S28x32x2048 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S28x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "inv_bc2" => some ((104857600000000000000000000 / 67267626542454041806644399 : ℝ) : EReal)
  | "inv_n" => some ((1 / 28 : ℝ) : EReal)
  | "lr_inv_bc1" => some ((1000000000000000000 / 87842334540943071199 : ℝ) : EReal)
  | "lr_wd" => some ((1 / 1000 : ℝ) : EReal)
  | "tenth" => some ((1 / 10 : ℝ) : EReal)
  | _ => none
-- ==== ReferenceIdeal.lean ====
abbrev S28x256x14336 : Shape := ⟨3, ![28, 256, 14336]⟩
abbrev S28x256x112 : Shape := ⟨3, ![28, 256, 112]⟩
abbrev S256x14336 : Shape := ⟨2, ![256, 14336]⟩
abbrev S256x112 : Shape := ⟨2, ![256, 112]⟩
abbrev S28x256x112x128 : Shape := ⟨4, ![28, 256, 112, 128]⟩
abbrev S28x256x112x1 : Shape := ⟨4, ![28, 256, 112, 1]⟩
abbrev S256x112x128 : Shape := ⟨3, ![256, 112, 128]⟩
abbrev S256x112x1 : Shape := ⟨3, ![256, 112, 1]⟩

abbrev nBuf : Space → Nat
  | .hbm => 13
  | .vmem => 13
  | .smem => 0
  | _ => 0

abbrev bufTy : (tb : Table) → Fin (tcTables nBuf tb) → BufTy
  | .hbm, ⟨0, _⟩ => ⟨S28x256x14336, .fp8e5m2⟩
  | .hbm, ⟨1, _⟩ => ⟨S28x256x112, .f32⟩
  | .hbm, ⟨2, _⟩ => ⟨S256x14336, .bf16⟩
  | .hbm, ⟨3, _⟩ => ⟨S256x14336, .bf16⟩
  | .hbm, ⟨4, _⟩ => ⟨S256x14336, .f32⟩
  | .hbm, ⟨5, _⟩ => ⟨S256x14336, .f32⟩
  | .hbm, ⟨6, _⟩ => ⟨S256x14336, .bf16⟩
  | .hbm, ⟨7, _⟩ => ⟨S256x14336, .bf16⟩
  | .hbm, ⟨8, _⟩ => ⟨S256x14336, .f32⟩
  | .hbm, ⟨9, _⟩ => ⟨S256x14336, .f32⟩
  | .hbm, ⟨10, _⟩ => ⟨S256x14336, .f32⟩
  | .hbm, ⟨11, _⟩ => ⟨S256x14336, .fp8e4m3⟩
  | .hbm, ⟨12, _⟩ => ⟨S256x112, .f32⟩
  | .local _ .vmem, ⟨0, _⟩ => ⟨S28x256x14336, .fp8e5m2⟩
  | .local _ .vmem, ⟨1, _⟩ => ⟨S28x256x112, .f32⟩
  | .local _ .vmem, ⟨2, _⟩ => ⟨S256x14336, .bf16⟩
  | .local _ .vmem, ⟨3, _⟩ => ⟨S256x14336, .bf16⟩
  | .local _ .vmem, ⟨4, _⟩ => ⟨S256x14336, .f32⟩
  | .local _ .vmem, ⟨5, _⟩ => ⟨S256x14336, .f32⟩
  | .local _ .vmem, ⟨6, _⟩ => ⟨S256x14336, .bf16⟩
  | .local _ .vmem, ⟨7, _⟩ => ⟨S256x14336, .bf16⟩
  | .local _ .vmem, ⟨8, _⟩ => ⟨S256x14336, .f32⟩
  | .local _ .vmem, ⟨9, _⟩ => ⟨S256x14336, .f32⟩
  | .local _ .vmem, ⟨10, _⟩ => ⟨S256x14336, .f32⟩
  | .local _ .vmem, ⟨11, _⟩ => ⟨S256x14336, .fp8e4m3⟩
  | .local _ .vmem, ⟨12, _⟩ => ⟨S256x112, .f32⟩
  | _, _ => ⟨S28x256x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "bc1" => some ((87842334540943071199 / 100000000000000000000 : ℝ) : EReal)
  | "bc2" => some ((67267626542454041806644399 / 104857600000000000000000000 : ℝ) : EReal)
  | "ln2" => some ((Real.log 2 : ℝ) : EReal)
  | "lr" => some ((1 / 100 : ℝ) : EReal)
  | "tenth" => some ((1 / 10 : ℝ) : EReal)
  | _ => none

abbrev grid0 : Pipeline.Grid := .none

abbrev stage0_0 : Fin 1 → Memref sig .tc .vmem S28x256x14336 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28x256x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x14336 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x14336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x14336 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x14336 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x14336 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x14336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x14336 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x14336 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x112 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KRuns.lean ====
/- The kernel of the compiled program: its branch condition, staging buffers and the shape of its run. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.OwnK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v2}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      (Pipeline.RDat.FramePostR.arr_in h c 3 rfl).trans ((hA c 3).trans (V_main_arg3 m c)),
      (Pipeline.RDat.FramePostR.arr_in h c 4 rfl).trans ((hA c 4).trans (V_main_arg4 m c)),
      (Pipeline.RDat.FramePostR.arr_in h c 5 rfl).trans ((hA c 5).trans (V_main_arg5 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 7 (mod 8) — by arithmetic of the point. -/
theorem hcond0_0 : ∀ t : Fin cfg0.N, cond0_0 (grid0.coords t) ↔ t.val % 8 = 7 :=
  (fun t => by
    have ht : t.val < 56 := Nat.lt_of_lt_of_eq t.isLt N_0
    have e0 : (grid0.coords t 0).val = t.val / 8 % 7 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S28x32x2048 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S28x16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x2048 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x256 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S256x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.OwnK

end
-- ==== Proof.KRunA.lean ====
/- The run of the compiled program's body at a point that does not write the scales. -/
module

public import proofs.«01_k».proof.Proof.KRuns

@[expose] public section

-- membership in a rectangle of production extents (`View.cover_of_tiled`): the elaborator's structural look
-- recurses once per coordinate of the long axes
set_option maxRecDepth 16384

noncomputable section

namespace Cert.OwnK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2864000 in
/-- The body's triple IN CASE A (`scf.if` 0 not taken: points 0, 1, … 54: 49 of 56): on whole staging memrefs — the inputs' at their contents,
    the FORGOTTEN outputs' (6, 7, 8, 9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : ¬cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_reduce_adamw_requant i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_reduce_adamw_requant_eq_skeleton]; unfold cc0_reduce_adamw_requant_skel
    simp only [k0_part83_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

end Cert.OwnK

end
-- ==== Proof.KRunB.lean ====
/- The run of the compiled program's body at a point that writes the scales. -/
module

public import proofs.«01_k».proof.Proof.KRunA

@[expose] public section

-- membership in a rectangle of production extents (`View.cover_of_tiled`): the elaborator's structural look
-- recurses once per coordinate of the long axes
set_option maxRecDepth 16384

noncomputable section

namespace Cert.OwnK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2876000 in
/-- The body's triple IN CASE B (`scf.if` 0 taken: points 7, 15, … 55: 7 of 56): on whole staging memrefs — the inputs' at their contents,
    the FORGOTTEN outputs' (6, 7, 8, 9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_reduce_adamw_requant i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_reduce_adamw_requant_eq_skeleton]; unfold cc0_reduce_adamw_requant_skel
    simp only [k0_part83_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

end Cert.OwnK

end
-- ==== Proof.KFrame.lean ====
/- The compiled program terminates without fault and leaves its arguments and semaphores as they were. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.OwnK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10, 11, 12): nothing reads what the kernel leaves in them, so nothing
    of it is named (Lib/Pipeline/Dat.lean `Dat.toRForget`). -/
def forgets0 : Fin 13 → Bool := fun w => w.val == 6 || w.val == 7 || w.val == 8 || w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 56 := lt_of_lt_of_eq t.isLt (show cfg0.N = 56 from N_0)
  by_cases h0 : t.val % 8 = 7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, H8, H9, H10, H11, H12, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, H8, H9, H10, H11, H12, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11, 12) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The compiled program, over any values: it terminates, its argument arrays and its semaphores end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.OwnK

end
-- ==== Proof.Points.lean ====
/- The branch condition of the kernel body over the grid points, the staging buffers of a point, and the scratch. -/
module

public import proofs.«01_k».proof.Proof.Gen.KernelIdeal.Frame
public import proofs.«01_k».proof.Proof.Gen.KernelIdeal.Skeleton

@[expose] public section

set_option maxRecDepth 16384

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 7 (mod 8) — by arithmetic of the point. -/
theorem hcond0_0 : ∀ t : Fin cfg0.N, cond0_0 (grid0.coords t) ↔ t.val % 8 = 7 :=
  (fun t => by
    have ht : t.val < 56 := Nat.lt_of_lt_of_eq t.isLt N_0
    have e0 : (grid0.coords t 0).val = t.val / 8 % 7 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S28x32x2048 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S28x16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x2048 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x256 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S256x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Own

end
-- ==== Proof.RunA.lean ====
/- A run of the kernel body at one grid point, with the pieces it stores. -/
module

public import proofs.«01_k».proof.Proof.Points

@[expose] public section

set_option maxRecDepth 16384

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The kernel body where it leaves the scales of the column block alone: what its stores leave in each output and in the
    scratch, as pieces (last first), together with the triple of the body. -/
noncomputable def runA (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : ¬cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32) :
    Σ' (L6 : List (View.Piece (Elt F) S32x2048 .bf16)), Σ' (L7 : List (View.Piece (Elt F) S32x2048 .bf16)), Σ' (L8 : List (View.Piece (Elt F) S32x2048 .f32)), Σ' (L9 : List (View.Piece (Elt F) S32x2048 .f32)), Σ' (L10 : List (View.Piece (Elt F) S32x2048 .f32)), Σ' (L11 : List (View.Piece (Elt F) S32x2048 .fp8e4m3)), { LS : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ arg15.view.loc (c : Thread nD τ) ↦[arg15.view.set]{fullShare} arg15.view.writes (Elt F) (harg15.unread (Val := Elt F) xs) LS) -∗ K ⟨⟩))
          ⊢ wp frame (wpE (defs₀ (F := F)) Variants.none c none) E (cc0_reduce_adamw_requant i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_reduce_adamw_requant_eq_skeleton]; unfold cc0_reduce_adamw_requant_skel
    simp only [k0_part83_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg15.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    iexact HS0

end Cert.Own

end
-- ==== Proof.RunB.lean ====
/- A run of the kernel body at one grid point, with the pieces it stores. -/
module

public import proofs.«01_k».proof.Proof.RunA

@[expose] public section

set_option maxRecDepth 16384

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The kernel body where it also stores the scales of the column block: what its stores leave in each output and in the
    scratch, as pieces (last first), together with the triple of the body. -/
noncomputable def runB (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32) :
    Σ' (L6 : List (View.Piece (Elt F) S32x2048 .bf16)), Σ' (L7 : List (View.Piece (Elt F) S32x2048 .bf16)), Σ' (L8 : List (View.Piece (Elt F) S32x2048 .f32)), Σ' (L9 : List (View.Piece (Elt F) S32x2048 .f32)), Σ' (L10 : List (View.Piece (Elt F) S32x2048 .f32)), Σ' (L11 : List (View.Piece (Elt F) S32x2048 .fp8e4m3)), Σ' (L12 : List (View.Piece (Elt F) S16x256 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ arg15.view.loc (c : Thread nD τ) ↦[arg15.view.set]{fullShare} arg15.view.writes (Elt F) (harg15.unread (Val := Elt F) xs) LS) -∗ K ⟨⟩))
          ⊢ wp frame (wpE (defs₀ (F := F)) Variants.none c none) E (cc0_reduce_adamw_requant i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K => ?run⟩
  case run =>
    simp only [cc0_reduce_adamw_requant_eq_skeleton]; unfold cc0_reduce_adamw_requant_skel
    simp only [k0_part83_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg15.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    iexact HS0

end Cert.Own

end
-- ==== Proof.Block.lean ====
/- The kernel body as one function of the blocks it reads, the same for each of its sixteen column groups. -/
module

public import proofs.«01_k».proof.Proof.Gen.KernelIdeal.Skeleton

@[expose] public section

set_option maxRecDepth 16384

noncomputable section

namespace Cert.Own

open Idealize.ShloMosaic Idealize.ShloMosaic.TcCoe
open Cert.KernelIdeal Cert.KernelIdeal.Gen

variable {F : FTy → Type} [FloatOps F] [Named F]

/-- The lane shift of a row group, as the body computes it. -/
def shiftW (i : grid0.Coords) : BitVec 32 :=
  let v1 : BitVec 32 := Scalar.muli (BitVec.ofNat 32 (i 1).val) 32#32
  let v22 : BitVec 32 := Scalar.select (Scalar.cmpi .eq 128#32 0#32) 1#32 128#32
  let v23 : BitVec 32 := Scalar.remsi v1 v22
  Scalar.select (Scalar.andi (Scalar.xori (Scalar.cmpi .slt v23 0#32) (Scalar.cmpi .slt v22 0#32)) (Scalar.cmpi .ne v23 0#32))
    (Scalar.addi v23 v22) v23

/-- The rotation amount: `k - shift` reduced modulo 128. -/
def rotW (k sh : BitVec 32) : BitVec 32 :=
  let v83 : BitVec 32 := Scalar.subi k sh
  let v85 : BitVec 32 := Scalar.select (Scalar.cmpi .eq 128#32 0#32) 1#32 128#32
  let v86 : BitVec 32 := Scalar.remsi v83 v85
  Scalar.select (Scalar.andi (Scalar.xori (Scalar.cmpi .slt v86 0#32) (Scalar.cmpi .slt v85 0#32)) (Scalar.cmpi .ne v86 0#32))
    (Scalar.addi v86 v85) v86

def rot (k sh : BitVec 32) (x : Vec F S1x8x128 .f32) : FVec F S8x128 .f32 :=
  dynamicRotate 1 (rotW k sh) none (shapeCast S8x128 x shapeCasts_S1x8x128_S8x128) rotates_S8x128_d1

/-- Four ranks' scales side by side, each rotated to its own group of 32 lanes. -/
def packed (sh : BitVec 32) (a b c d : Vec F S1x8x128 .f32) : FVec F S8x128 .f32 :=
  select (cmpi .eq k0_pay7 (broadcast S8x128 3#32)) (rot 224#32 sh d)
    (select (cmpi .eq k0_pay7 (broadcast S8x128 2#32)) (rot 192#32 sh c)
      (select (cmpi .eq k0_pay7 (broadcast S8x128 1#32)) (rot 160#32 sh b) (rot 128#32 sh a)))

/-- The mask that keeps of each lane group the one lane of the row. -/
def eyeM : FVec F S32x128 .bf16 :=
  k0_pay5 (iota .tc S32x128 32 [0] iota_S32x128_d0_w32) (Scalar.select (Scalar.cmpi .eq 32#32 0#32) 1#32 32#32) k0_pay3 k0_pay4

def lhsBlk (o : ℕ) (ho : S8x128.Slices ![o, 0] S1x128) (p : FVec F S8x128 .f32) : FVec F S32x128 .bf16 :=
  mulf (broadcastTo S32x128 (shapeCast S1x128 (truncf .bf16 (extractStridedSlice S1x128 ![o, 0] p ho) bitsLt_bf16_f32)
    shapeCasts_S1x128_S1x128) broadcasts_S1x128_S32x128) eyeM

def lhsRow (o : ℕ) (ho : S8x128.Slices ![o, 0] S1x128) (p : Fin 7 → FVec F S8x128 .f32) : FVec F S32x896 .bf16 :=
  concatenate S32x896 1 [⟨S32x128, lhsBlk o ho (p 0)⟩, ⟨S32x128, lhsBlk o ho (p 1)⟩, ⟨S32x128, lhsBlk o ho (p 2)⟩, ⟨S32x128, lhsBlk o ho (p 3)⟩, ⟨S32x128, lhsBlk o ho (p 4)⟩, ⟨S32x128, lhsBlk o ho (p 5)⟩, ⟨S32x128, lhsBlk o ho (p 6)⟩]
    concatenates_S32x128_S32x128_S32x128_S32x128_S32x128_S32x128_S32x128_S32x896_d1

/-- The product of two column groups at once. -/
def accF (o o' : ℕ) (ho : S8x128.Slices ![o, 0] S1x128) (ho' : S8x128.Slices ![o', 0] S1x128) (p : Fin 7 → FVec F S8x128 .f32)
    (codes : Vec F S28x32x256 .fp8e5m2) : FVec F S64x256 .f32 :=
  matmul dot_S64x896_S896x256_S64x256_1_0_0_1_n_n none
    (concatenate S64x896 0 [⟨S32x896, lhsRow o ho p⟩, ⟨S32x896, lhsRow o' ho' p⟩] concatenates_S32x896_S32x896_S64x896_d0)
    (shapeCast S896x256 codes shapeCasts_S28x32x256_S896x256 : FVec F S896x256 .fp8e5m2)
    (constant S64x256 .f32 0x00000000#32)

def gsum0 (a : FVec F S64x256 .f32) : FVec F S32x128 .f32 := extractStridedSlice S32x128 ![0, 0] a slices_S64x256_o0_0_S32x128
def gsum1 (a : FVec F S64x256 .f32) : FVec F S32x128 .f32 := extractStridedSlice S32x128 ![32, 128] a slices_S64x256_o32_128_S32x128

def gF (gs : FVec F S32x128 .f32) : FVec F S32x128 .f32 := mulf gs (broadcast S32x128 (Named.named κ "inv_n" 0x3D124925#32))
def mF (gs m : FVec F S32x128 .f32) : FVec F S32x128 .f32 :=
  addf (mulf (broadcast S32x128 (Scalar.ofBits .f32 0x3F666666#32)) m) (mulf (broadcast S32x128 (Named.named κ "tenth" 0x3DCCCCCD#32)) (gF gs))
def vF (gs v : FVec F S32x128 .f32) : FVec F S32x128 .f32 :=
  addf (mulf (broadcast S32x128 (Scalar.ofBits .f32 0x3F733333#32)) v)
    (mulf (broadcast S32x128 (Scalar.ofBits .f32 0x3D4CCCCD#32)) (mulf (gF gs) (gF gs)))
def masterF (hi lo : FVec F S32x128 .bf16) : FVec F S32x128 .f32 := addf (extf .f32 hi bitsLt_bf16_f32) (extf .f32 lo bitsLt_bf16_f32)
def updF (gs m v : FVec F S32x128 .f32) (hi lo : FVec F S32x128 .bf16) : FVec F S32x128 .f32 :=
  addf (divf (mulf (mF gs m) (broadcast S32x128 (Named.named κ "lr_inv_bc1" 0x3C3A8418#32)))
      (addf (sqrt (mulf (vF gs v) (broadcast S32x128 (Named.named κ "inv_bc2" 0x3FC78729#32))))
        (broadcast S32x128 (Scalar.ofBits .f32 0x322BCC77#32))))
    (mulf (broadcast S32x128 (Named.named κ "lr_wd" 0x3A83126F#32)) (masterF hi lo))
def pF (gs m v : FVec F S32x128 .f32) (hi lo : FVec F S32x128 .bf16) : FVec F S32x128 .f32 := subf (masterF hi lo) (updF gs m v hi lo)
def hiF (p : FVec F S32x128 .f32) : FVec F S32x128 .bf16 := truncf .bf16 p bitsLt_bf16_f32
def loF (p : FVec F S32x128 .f32) : FVec F S32x128 .bf16 := truncf .bf16 (subf p (extf .f32 (hiF p) bitsLt_bf16_f32)) bitsLt_bf16_f32

/-- The block maximum over 448. -/
def yF (p : FVec F S32x128 .f32) : FVec F S32x1 .f32 :=
  mulf (shapeCast S32x1 (multiReduction .maximumf [1] S32 (absf p) 0xFF800000#32 reduces_S32x128_S32 (.inl rfl) rfl) shapeCasts_S32_S32x1)
    (broadcast S32x1 (Scalar.ofBits .f32 0x3B124925#32))

/-- One step of the search for the exponent field. -/
def stepB (y : FVec F S32x1 .f32) (b : BitVec 32) (e : IVec S32x1 32) : IVec S32x1 32 :=
  select (cmpf .olt y (bitcastToFloat .f32 (addi e (broadcast S32x1 b)))) e (addi e (broadcast S32x1 b))

def scaleW (y : FVec F S32x1 .f32) : IVec S32x1 32 :=
  let e := stepB y 8388608#32 (stepB y 16777216#32 (stepB y 33554432#32 (stepB y 67108864#32 (stepB y 134217728#32
    (stepB y 268435456#32 (stepB y 536870912#32 (stepB y 1073741824#32 (broadcast S32x1 0#32))))))))
  select (cmpi .eq e (broadcast S32x1 0#32)) (broadcast S32x1 1065353216#32) (addi e (broadcast S32x1 8388608#32))

def scaleF (p : FVec F S32x128 .f32) : FVec F S32x1 .f32 := bitcastToFloat .f32 (scaleW (yF p))
def invF (p : FVec F S32x128 .f32) : FVec F S32x1 .f32 := bitcastToFloat .f32 (subi (broadcast S32x1 2130706432#32) (scaleW (yF p)))

def codesF (p : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32)) (mulf p (broadcastTo S32x128 (invF p) broadcasts_S32x1_S32x128))))
    bitsLt_fp8e4m3_f32

/-- The scales of one column group put into their lane. -/
def psStep (n : BitVec 32) (p : FVec F S32x128 .f32) (acc : FVec F S32x128 .f32) : FVec F S32x128 .f32 :=
  select (cmpi .eq (iota .tc S32x128 32 [1] iota_S32x128_d1_w32) (broadcast S32x128 n))
    (broadcastTo S32x128 (shapeCast S32x1 (scaleF p) shapeCasts_S32x1_S32x1) broadcasts_S32x1_S32x128) acc

end Cert.Own

end
-- ==== Proof.Pieces.lean ====
/- What the body stores, as the sixteen column groups of one function. -/
module

public import proofs.«01_k».proof.Proof.RunB
public import proofs.«01_k».proof.Proof.Block

@[expose] public section

set_option maxRecDepth 16384

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A store of one column group. -/
def pc {e : EltTy} (o : ℕ) (inb : ∀ a, (![0, o] : Fin 2 → Nat) a + S32x128.size a ≤ S32x2048.size a) (f : S32x128.Idx → Elt F e) :
    View.Piece (Elt F) S32x2048 e := ⟨Rect.unit (s := S32x2048) ![0, o] S32x128.size inb, f⟩

/-- A load of one column group. -/
def ld1 {e : EltTy} (o : ℕ) (inb : ∀ a, (![0, o] : Fin 2 → Nat) a + S32x128.size a ≤ S32x2048.size a)
    (arg : Memref sig .tc .vmem S32x2048 e) (harg : arg.IsWhole) (x : Vec F S32x2048 e) : Vec F S32x128 e :=
  View.readAt (Elt F) arg.view (Rect.unit (s := S32x2048) ![0, o] S32x128.size inb).toLoadRect (harg.unread x)

/-- A load of two column groups of the codes of all ranks. -/
def ldc1 (o : ℕ) (inb : ∀ a, (![0, 0, o] : Fin 3 → Nat) a + S28x32x256.size a ≤ S28x32x2048.size a)
    (arg : Memref sig .tc .vmem S28x32x2048 .fp8e5m2) (harg : arg.IsWhole) (x : Vec F S28x32x2048 .fp8e5m2) : Vec F S28x32x256 .fp8e5m2 :=
  View.readAt (Elt F) arg.view (Rect.unit (s := S28x32x2048) ![0, 0, o] S28x32x256.size inb).toLoadRect (harg.unread x)

/-- A load of one rank's scales. -/
def lds1 (off : Fin 3 → Nat) (inb : ∀ a, off a + S1x8x128.size a ≤ S28x16x256.size a)
    (arg : Memref sig .tc .vmem S28x16x256 .f32) (harg : arg.IsWhole) (x : Vec F S28x16x256 .f32) : Vec F S1x8x128 .f32 :=
  View.readAt (Elt F) arg.view (Rect.unit (s := S28x16x256) off S1x8x128.size inb).toLoadRect (harg.unread x)

/-- Sixteen stores side by side, one per column group, the last first. -/
def pieces {e : EltTy} (f : Fin 16 → S32x128.Idx → Elt F e) : List (View.Piece (Elt F) S32x2048 e) :=
  [pc 1920 inb_S32x2048_S32x128_0_1920 (f 15),
    pc 1792 inb_S32x2048_S32x128_0_1792 (f 14),
    pc 1664 inb_S32x2048_S32x128_0_1664 (f 13),
    pc 1536 inb_S32x2048_S32x128_0_1536 (f 12),
    pc 1408 inb_S32x2048_S32x128_0_1408 (f 11),
    pc 1280 inb_S32x2048_S32x128_0_1280 (f 10),
    pc 1152 inb_S32x2048_S32x128_0_1152 (f 9),
    pc 1024 inb_S32x2048_S32x128_0_1024 (f 8),
    pc 896 inb_S32x2048_S32x128_0_896 (f 7),
    pc 768 inb_S32x2048_S32x128_0_768 (f 6),
    pc 640 inb_S32x2048_S32x128_0_640 (f 5),
    pc 512 inb_S32x2048_S32x128_0_512 (f 4),
    pc 384 inb_S32x2048_S32x128_0_384 (f 3),
    pc 256 inb_S32x2048_S32x128_0_256 (f 2),
    pc 128 inb_S32x2048_S32x128_0_128 (f 1),
    pc 0 inb_S32x2048_S32x128_0_0 (f 0)]

/-- The sixteen blocks of an argument. -/
def ld {e : EltTy} (arg : Memref sig .tc .vmem S32x2048 e) (harg : arg.IsWhole) (x : Vec F S32x2048 e) : Fin 16 → Vec F S32x128 e :=
  ![ld1 0 inb_S32x2048_S32x128_0_0 arg harg x,
    ld1 128 inb_S32x2048_S32x128_0_128 arg harg x,
    ld1 256 inb_S32x2048_S32x128_0_256 arg harg x,
    ld1 384 inb_S32x2048_S32x128_0_384 arg harg x,
    ld1 512 inb_S32x2048_S32x128_0_512 arg harg x,
    ld1 640 inb_S32x2048_S32x128_0_640 arg harg x,
    ld1 768 inb_S32x2048_S32x128_0_768 arg harg x,
    ld1 896 inb_S32x2048_S32x128_0_896 arg harg x,
    ld1 1024 inb_S32x2048_S32x128_0_1024 arg harg x,
    ld1 1152 inb_S32x2048_S32x128_0_1152 arg harg x,
    ld1 1280 inb_S32x2048_S32x128_0_1280 arg harg x,
    ld1 1408 inb_S32x2048_S32x128_0_1408 arg harg x,
    ld1 1536 inb_S32x2048_S32x128_0_1536 arg harg x,
    ld1 1664 inb_S32x2048_S32x128_0_1664 arg harg x,
    ld1 1792 inb_S32x2048_S32x128_0_1792 arg harg x,
    ld1 1920 inb_S32x2048_S32x128_0_1920 arg harg x]

/-- The eight pairs of blocks of the codes. -/
def ldc (arg : Memref sig .tc .vmem S28x32x2048 .fp8e5m2) (harg : arg.IsWhole) (x : Vec F S28x32x2048 .fp8e5m2) : Fin 8 → Vec F S28x32x256 .fp8e5m2 :=
  ![ldc1 0 inb_S28x32x2048_S28x32x256_0_0_0 arg harg x,
    ldc1 256 inb_S28x32x2048_S28x32x256_0_0_256 arg harg x,
    ldc1 512 inb_S28x32x2048_S28x32x256_0_0_512 arg harg x,
    ldc1 768 inb_S28x32x2048_S28x32x256_0_0_768 arg harg x,
    ldc1 1024 inb_S28x32x2048_S28x32x256_0_0_1024 arg harg x,
    ldc1 1280 inb_S28x32x2048_S28x32x256_0_0_1280 arg harg x,
    ldc1 1536 inb_S28x32x2048_S28x32x256_0_0_1536 arg harg x,
    ldc1 1792 inb_S28x32x2048_S28x32x256_0_0_1792 arg harg x]

/-- The scales of all ranks for column groups 0 to 7, seven packs of four. -/
def pk0 (i : grid0.Coords) (arg : Memref sig .tc .vmem S28x16x256 .f32) (harg : arg.IsWhole) (x : Vec F S28x16x256 .f32) : Fin 7 → FVec F S8x128 .f32 :=
  ![packed (shiftW i) (lds1 (k0_off1 i) (k0_off1_inb i) arg harg x) (lds1 (k0_off2 i) (k0_off2_inb i) arg harg x) (lds1 (k0_off3 i) (k0_off3_inb i) arg harg x) (lds1 (k0_off4 i) (k0_off4_inb i) arg harg x),
    packed (shiftW i) (lds1 (k0_off5 i) (k0_off5_inb i) arg harg x) (lds1 (k0_off6 i) (k0_off6_inb i) arg harg x) (lds1 (k0_off7 i) (k0_off7_inb i) arg harg x) (lds1 (k0_off8 i) (k0_off8_inb i) arg harg x),
    packed (shiftW i) (lds1 (k0_off9 i) (k0_off9_inb i) arg harg x) (lds1 (k0_off10 i) (k0_off10_inb i) arg harg x) (lds1 (k0_off11 i) (k0_off11_inb i) arg harg x) (lds1 (k0_off12 i) (k0_off12_inb i) arg harg x),
    packed (shiftW i) (lds1 (k0_off13 i) (k0_off13_inb i) arg harg x) (lds1 (k0_off14 i) (k0_off14_inb i) arg harg x) (lds1 (k0_off15 i) (k0_off15_inb i) arg harg x) (lds1 (k0_off16 i) (k0_off16_inb i) arg harg x),
    packed (shiftW i) (lds1 (k0_off17 i) (k0_off17_inb i) arg harg x) (lds1 (k0_off18 i) (k0_off18_inb i) arg harg x) (lds1 (k0_off19 i) (k0_off19_inb i) arg harg x) (lds1 (k0_off20 i) (k0_off20_inb i) arg harg x),
    packed (shiftW i) (lds1 (k0_off21 i) (k0_off21_inb i) arg harg x) (lds1 (k0_off22 i) (k0_off22_inb i) arg harg x) (lds1 (k0_off23 i) (k0_off23_inb i) arg harg x) (lds1 (k0_off24 i) (k0_off24_inb i) arg harg x),
    packed (shiftW i) (lds1 (k0_off25 i) (k0_off25_inb i) arg harg x) (lds1 (k0_off26 i) (k0_off26_inb i) arg harg x) (lds1 (k0_off27 i) (k0_off27_inb i) arg harg x) (lds1 (k0_off28 i) (k0_off28_inb i) arg harg x)]

/-- The scales of all ranks for column groups 8 to 15, seven packs of four. -/
def pk1 (i : grid0.Coords) (arg : Memref sig .tc .vmem S28x16x256 .f32) (harg : arg.IsWhole) (x : Vec F S28x16x256 .f32) : Fin 7 → FVec F S8x128 .f32 :=
  ![packed (shiftW i) (lds1 (k0_off29 i) (k0_off29_inb i) arg harg x) (lds1 (k0_off30 i) (k0_off30_inb i) arg harg x) (lds1 (k0_off31 i) (k0_off31_inb i) arg harg x) (lds1 (k0_off32 i) (k0_off32_inb i) arg harg x),
    packed (shiftW i) (lds1 (k0_off33 i) (k0_off33_inb i) arg harg x) (lds1 (k0_off34 i) (k0_off34_inb i) arg harg x) (lds1 (k0_off35 i) (k0_off35_inb i) arg harg x) (lds1 (k0_off36 i) (k0_off36_inb i) arg harg x),
    packed (shiftW i) (lds1 (k0_off37 i) (k0_off37_inb i) arg harg x) (lds1 (k0_off38 i) (k0_off38_inb i) arg harg x) (lds1 (k0_off39 i) (k0_off39_inb i) arg harg x) (lds1 (k0_off40 i) (k0_off40_inb i) arg harg x),
    packed (shiftW i) (lds1 (k0_off41 i) (k0_off41_inb i) arg harg x) (lds1 (k0_off42 i) (k0_off42_inb i) arg harg x) (lds1 (k0_off43 i) (k0_off43_inb i) arg harg x) (lds1 (k0_off44 i) (k0_off44_inb i) arg harg x),
    packed (shiftW i) (lds1 (k0_off45 i) (k0_off45_inb i) arg harg x) (lds1 (k0_off46 i) (k0_off46_inb i) arg harg x) (lds1 (k0_off47 i) (k0_off47_inb i) arg harg x) (lds1 (k0_off48 i) (k0_off48_inb i) arg harg x),
    packed (shiftW i) (lds1 (k0_off49 i) (k0_off49_inb i) arg harg x) (lds1 (k0_off50 i) (k0_off50_inb i) arg harg x) (lds1 (k0_off51 i) (k0_off51_inb i) arg harg x) (lds1 (k0_off52 i) (k0_off52_inb i) arg harg x),
    packed (shiftW i) (lds1 (k0_off53 i) (k0_off53_inb i) arg harg x) (lds1 (k0_off54 i) (k0_off54_inb i) arg harg x) (lds1 (k0_off55 i) (k0_off55_inb i) arg harg x) (lds1 (k0_off56 i) (k0_off56_inb i) arg harg x)]

/-- The sixteen blocks of the sum over the ranks. -/
def gsumB (p0 p1 : Fin 7 → FVec F S8x128 .f32) (cd : Fin 8 → Vec F S28x32x256 .fp8e5m2) : Fin 16 → FVec F S32x128 .f32 :=
  ![gsum0 (accF 0 1 slices_S8x128_o0_0_S1x128 slices_S8x128_o1_0_S1x128 p0 (cd 0)),
    gsum1 (accF 0 1 slices_S8x128_o0_0_S1x128 slices_S8x128_o1_0_S1x128 p0 (cd 0)),
    gsum0 (accF 2 3 slices_S8x128_o2_0_S1x128 slices_S8x128_o3_0_S1x128 p0 (cd 1)),
    gsum1 (accF 2 3 slices_S8x128_o2_0_S1x128 slices_S8x128_o3_0_S1x128 p0 (cd 1)),
    gsum0 (accF 4 5 slices_S8x128_o4_0_S1x128 slices_S8x128_o5_0_S1x128 p0 (cd 2)),
    gsum1 (accF 4 5 slices_S8x128_o4_0_S1x128 slices_S8x128_o5_0_S1x128 p0 (cd 2)),
    gsum0 (accF 6 7 slices_S8x128_o6_0_S1x128 slices_S8x128_o7_0_S1x128 p0 (cd 3)),
    gsum1 (accF 6 7 slices_S8x128_o6_0_S1x128 slices_S8x128_o7_0_S1x128 p0 (cd 3)),
    gsum0 (accF 0 1 slices_S8x128_o0_0_S1x128 slices_S8x128_o1_0_S1x128 p1 (cd 4)),
    gsum1 (accF 0 1 slices_S8x128_o0_0_S1x128 slices_S8x128_o1_0_S1x128 p1 (cd 4)),
    gsum0 (accF 2 3 slices_S8x128_o2_0_S1x128 slices_S8x128_o3_0_S1x128 p1 (cd 5)),
    gsum1 (accF 2 3 slices_S8x128_o2_0_S1x128 slices_S8x128_o3_0_S1x128 p1 (cd 5)),
    gsum0 (accF 4 5 slices_S8x128_o4_0_S1x128 slices_S8x128_o5_0_S1x128 p1 (cd 6)),
    gsum1 (accF 4 5 slices_S8x128_o4_0_S1x128 slices_S8x128_o5_0_S1x128 p1 (cd 6)),
    gsum0 (accF 6 7 slices_S8x128_o6_0_S1x128 slices_S8x128_o7_0_S1x128 p1 (cd 7)),
    gsum1 (accF 6 7 slices_S8x128_o6_0_S1x128 slices_S8x128_o7_0_S1x128 p1 (cd 7))]

/-- The sixteen blocks of the new parameters. -/
def pB (gs m v : Fin 16 → Vec F S32x128 .f32) (hi lo : Fin 16 → Vec F S32x128 .bf16) (n : Fin 16) : FVec F S32x128 .f32 :=
  pF (gs n) (m n) (v n) (hi n) (lo n)

/-- The scales of the sixteen column groups, one per lane. -/
def psB (p : Fin 16 → FVec F S32x128 .f32) : FVec F S32x128 .f32 :=
  (psStep 15#32 (p 15) (psStep 14#32 (p 14) (psStep 13#32 (p 13) (psStep 12#32 (p 12) (psStep 11#32 (p 11) (psStep 10#32 (p 10) (psStep 9#32 (p 9) (psStep 8#32 (p 8) (psStep 7#32 (p 7) (psStep 6#32 (p 6) (psStep 5#32 (p 5) (psStep 4#32 (p 4) (psStep 3#32 (p 3) (psStep 2#32 (p 2) (psStep 1#32 (p 1) (psStep 0#32 (p 0) (broadcast S32x128 (Scalar.ofBits .f32 0x00000000#32))))))))))))))))))

end Cert.Own

end
-- ==== Proof.Blocks.lean ====
/- The blocks that one grid point leaves, as functions of the blocks it reads. -/
module

public import proofs.«01_k».proof.Proof.Pieces
public import Idealize.ShloMosaic.Lib.WholeRead
public import Idealize.ShloMosaic.Lib.Pointwise

@[expose] public section

set_option maxRecDepth 16384

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Column group at offset `o` of a block. -/
def cut1 {e : EltTy} (o : ℕ) (inb : ∀ a, (![0, o] : Fin 2 → Nat) a + S32x128.size a ≤ S32x2048.size a) (x : Vec F S32x2048 e) : Vec F S32x128 e :=
  fun y => x ((Rect.unit (s := S32x2048) ![0, o] S32x128.size inb).toLoadRect.idx y)

/-- Two column groups, at offset `o`, of the codes of all ranks. -/
def cutc1 (o : ℕ) (inb : ∀ a, (![0, 0, o] : Fin 3 → Nat) a + S28x32x256.size a ≤ S28x32x2048.size a) (x : Vec F S28x32x2048 .fp8e5m2) : Vec F S28x32x256 .fp8e5m2 :=
  fun y => x ((Rect.unit (s := S28x32x2048) ![0, 0, o] S28x32x256.size inb).toLoadRect.idx y)

/-- Eight rows of one rank's scales. -/
def cuts1 (off : Fin 3 → Nat) (inb : ∀ a, off a + S1x8x128.size a ≤ S28x16x256.size a) (x : Vec F S28x16x256 .f32) : Vec F S1x8x128 .f32 :=
  fun y => x ((Rect.unit (s := S28x16x256) off S1x8x128.size inb).toLoadRect.idx y)

theorem ld1_eq {e : EltTy} (o : ℕ) (inb) (arg : Memref sig .tc .vmem S32x2048 e) (harg : arg.IsWhole) (x : Vec F S32x2048 e) :
    ld1 o inb arg harg x = cut1 o inb x :=
  funext (Memref.IsWhole.readAt_unread harg x (Rect.unit (s := S32x2048) ![0, o] S32x128.size inb).toLoadRect)
theorem ldc1_eq (o : ℕ) (inb) (arg : Memref sig .tc .vmem S28x32x2048 .fp8e5m2) (harg : arg.IsWhole) (x : Vec F S28x32x2048 .fp8e5m2) :
    ldc1 o inb arg harg x = cutc1 o inb x :=
  funext (Memref.IsWhole.readAt_unread harg x (Rect.unit (s := S28x32x2048) ![0, 0, o] S28x32x256.size inb).toLoadRect)
theorem lds1_eq (off : Fin 3 → Nat) (inb) (arg : Memref sig .tc .vmem S28x16x256 .f32) (harg : arg.IsWhole) (x : Vec F S28x16x256 .f32) :
    lds1 off inb arg harg x = cuts1 off inb x :=
  funext (Memref.IsWhole.readAt_unread harg x (Rect.unit (s := S28x16x256) off S1x8x128.size inb).toLoadRect)

/-- The sixteen column groups of a block. -/
def blk {e : EltTy} (x : Vec F S32x2048 e) : Fin 16 → Vec F S32x128 e :=
  ![cut1 0 inb_S32x2048_S32x128_0_0 x,
    cut1 128 inb_S32x2048_S32x128_0_128 x,
    cut1 256 inb_S32x2048_S32x128_0_256 x,
    cut1 384 inb_S32x2048_S32x128_0_384 x,
    cut1 512 inb_S32x2048_S32x128_0_512 x,
    cut1 640 inb_S32x2048_S32x128_0_640 x,
    cut1 768 inb_S32x2048_S32x128_0_768 x,
    cut1 896 inb_S32x2048_S32x128_0_896 x,
    cut1 1024 inb_S32x2048_S32x128_0_1024 x,
    cut1 1152 inb_S32x2048_S32x128_0_1152 x,
    cut1 1280 inb_S32x2048_S32x128_0_1280 x,
    cut1 1408 inb_S32x2048_S32x128_0_1408 x,
    cut1 1536 inb_S32x2048_S32x128_0_1536 x,
    cut1 1664 inb_S32x2048_S32x128_0_1664 x,
    cut1 1792 inb_S32x2048_S32x128_0_1792 x,
    cut1 1920 inb_S32x2048_S32x128_0_1920 x]

/-- The eight pairs of column groups of the codes. -/
def blkc (x : Vec F S28x32x2048 .fp8e5m2) : Fin 8 → Vec F S28x32x256 .fp8e5m2 :=
  ![cutc1 0 inb_S28x32x2048_S28x32x256_0_0_0 x,
    cutc1 256 inb_S28x32x2048_S28x32x256_0_0_256 x,
    cutc1 512 inb_S28x32x2048_S28x32x256_0_0_512 x,
    cutc1 768 inb_S28x32x2048_S28x32x256_0_0_768 x,
    cutc1 1024 inb_S28x32x2048_S28x32x256_0_0_1024 x,
    cutc1 1280 inb_S28x32x2048_S28x32x256_0_0_1280 x,
    cutc1 1536 inb_S28x32x2048_S28x32x256_0_0_1536 x,
    cutc1 1792 inb_S28x32x2048_S28x32x256_0_0_1792 x]

/-- The scales of all ranks for column groups 0 to 7, seven packs of four. -/
def sc0 (i : grid0.Coords) (x : Vec F S28x16x256 .f32) : Fin 7 → FVec F S8x128 .f32 :=
  ![packed (shiftW i) (cuts1 (k0_off1 i) (k0_off1_inb i) x) (cuts1 (k0_off2 i) (k0_off2_inb i) x) (cuts1 (k0_off3 i) (k0_off3_inb i) x) (cuts1 (k0_off4 i) (k0_off4_inb i) x),
    packed (shiftW i) (cuts1 (k0_off5 i) (k0_off5_inb i) x) (cuts1 (k0_off6 i) (k0_off6_inb i) x) (cuts1 (k0_off7 i) (k0_off7_inb i) x) (cuts1 (k0_off8 i) (k0_off8_inb i) x),
    packed (shiftW i) (cuts1 (k0_off9 i) (k0_off9_inb i) x) (cuts1 (k0_off10 i) (k0_off10_inb i) x) (cuts1 (k0_off11 i) (k0_off11_inb i) x) (cuts1 (k0_off12 i) (k0_off12_inb i) x),
    packed (shiftW i) (cuts1 (k0_off13 i) (k0_off13_inb i) x) (cuts1 (k0_off14 i) (k0_off14_inb i) x) (cuts1 (k0_off15 i) (k0_off15_inb i) x) (cuts1 (k0_off16 i) (k0_off16_inb i) x),
    packed (shiftW i) (cuts1 (k0_off17 i) (k0_off17_inb i) x) (cuts1 (k0_off18 i) (k0_off18_inb i) x) (cuts1 (k0_off19 i) (k0_off19_inb i) x) (cuts1 (k0_off20 i) (k0_off20_inb i) x),
    packed (shiftW i) (cuts1 (k0_off21 i) (k0_off21_inb i) x) (cuts1 (k0_off22 i) (k0_off22_inb i) x) (cuts1 (k0_off23 i) (k0_off23_inb i) x) (cuts1 (k0_off24 i) (k0_off24_inb i) x),
    packed (shiftW i) (cuts1 (k0_off25 i) (k0_off25_inb i) x) (cuts1 (k0_off26 i) (k0_off26_inb i) x) (cuts1 (k0_off27 i) (k0_off27_inb i) x) (cuts1 (k0_off28 i) (k0_off28_inb i) x)]

/-- The scales of all ranks for column groups 8 to 15, seven packs of four. -/
def sc1 (i : grid0.Coords) (x : Vec F S28x16x256 .f32) : Fin 7 → FVec F S8x128 .f32 :=
  ![packed (shiftW i) (cuts1 (k0_off29 i) (k0_off29_inb i) x) (cuts1 (k0_off30 i) (k0_off30_inb i) x) (cuts1 (k0_off31 i) (k0_off31_inb i) x) (cuts1 (k0_off32 i) (k0_off32_inb i) x),
    packed (shiftW i) (cuts1 (k0_off33 i) (k0_off33_inb i) x) (cuts1 (k0_off34 i) (k0_off34_inb i) x) (cuts1 (k0_off35 i) (k0_off35_inb i) x) (cuts1 (k0_off36 i) (k0_off36_inb i) x),
    packed (shiftW i) (cuts1 (k0_off37 i) (k0_off37_inb i) x) (cuts1 (k0_off38 i) (k0_off38_inb i) x) (cuts1 (k0_off39 i) (k0_off39_inb i) x) (cuts1 (k0_off40 i) (k0_off40_inb i) x),
    packed (shiftW i) (cuts1 (k0_off41 i) (k0_off41_inb i) x) (cuts1 (k0_off42 i) (k0_off42_inb i) x) (cuts1 (k0_off43 i) (k0_off43_inb i) x) (cuts1 (k0_off44 i) (k0_off44_inb i) x),
    packed (shiftW i) (cuts1 (k0_off45 i) (k0_off45_inb i) x) (cuts1 (k0_off46 i) (k0_off46_inb i) x) (cuts1 (k0_off47 i) (k0_off47_inb i) x) (cuts1 (k0_off48 i) (k0_off48_inb i) x),
    packed (shiftW i) (cuts1 (k0_off49 i) (k0_off49_inb i) x) (cuts1 (k0_off50 i) (k0_off50_inb i) x) (cuts1 (k0_off51 i) (k0_off51_inb i) x) (cuts1 (k0_off52 i) (k0_off52_inb i) x),
    packed (shiftW i) (cuts1 (k0_off53 i) (k0_off53_inb i) x) (cuts1 (k0_off54 i) (k0_off54_inb i) x) (cuts1 (k0_off55 i) (k0_off55_inb i) x) (cuts1 (k0_off56 i) (k0_off56_inb i) x)]

theorem ld_eq {e : EltTy} (arg : Memref sig .tc .vmem S32x2048 e) (harg : arg.IsWhole) (x : Vec F S32x2048 e) : ld arg harg x = blk x := by
  simp only [ld, blk, ld1_eq]
theorem ldc_eq (arg : Memref sig .tc .vmem S28x32x2048 .fp8e5m2) (harg : arg.IsWhole) (x : Vec F S28x32x2048 .fp8e5m2) : ldc arg harg x = blkc x := by
  simp only [ldc, blkc, ldc1_eq]
theorem pk0_eq (i : grid0.Coords) (arg : Memref sig .tc .vmem S28x16x256 .f32) (harg : arg.IsWhole) (x : Vec F S28x16x256 .f32) : pk0 i arg harg x = sc0 i x := by
  simp only [pk0, sc0, lds1_eq]
theorem pk1_eq (i : grid0.Coords) (arg : Memref sig .tc .vmem S28x16x256 .f32) (harg : arg.IsWhole) (x : Vec F S28x16x256 .f32) : pk1 i arg harg x = sc1 i x := by
  simp only [pk1, sc1, lds1_eq]

/-- The sums over the ranks, by column group, that a grid point computes of its blocks. -/
def gsT (i : grid0.Coords) (x0 : Vec F S28x32x2048 .fp8e5m2) (x1 : Vec F S28x16x256 .f32) : Fin 16 → FVec F S32x128 .f32 :=
  gsumB (sc0 i x1) (sc1 i x1) (blkc x0)

/-- The new parameters, by column group, that a grid point computes of its blocks. -/
def pT (i : grid0.Coords) (x0 : Vec F S28x32x2048 .fp8e5m2) (x1 : Vec F S28x16x256 .f32) (x2 x3 : Vec F S32x2048 .bf16) (x4 x5 : Vec F S32x2048 .f32) : Fin 16 → FVec F S32x128 .f32 :=
  pB (gsT i x0 x1) (blk x4) (blk x5) (blk x2) (blk x3)

/-- Sixteen column groups side by side. -/
def whole {e : EltTy} (f : Fin 16 → S32x128.Idx → Elt F e) : Vec F S32x2048 e := fun y =>
  f ⟨(y 1).val / 128, by have h : (y 1).val < 2048 := (y 1).isLt; omega⟩ (ix2 ⟨(y 0).val, (y 0).isLt⟩ ⟨(y 1).val % 128, Nat.mod_lt _ (by decide)⟩)

set_option maxHeartbeats 1000000 in
/-- Sixteen stores, one per column group, leave the column groups side by side. -/
theorem read_pieces {e : EltTy} (arg : Memref sig .tc .vmem S32x2048 e) (fb) (f : Fin 16 → S32x128.Idx → Elt F e) :
    arg.view.read (Elt F) (arg.view.writes (Elt F) fb (pieces f)) = whole f := by
  funext y
  refine View.read_writes_apply_of_pieces (v := arg.view) (f := fb) (whole f) (pieces f) ?_ y (View.cover_of_tiledL (pieces f) S32x128.size (by sl_kernel_rfl) y)
  have key : ∀ (n : Fin 16) (o : ℕ) (ho : o = 128 * n.val) (inb) (x : S32x128.Idx),
      (pc o inb (f n)).2 x = whole f ((pc o inb (f n)).1.emb x) := by
    intro n o ho inb x
    have h0 : (x 0).val < 32 := (x 0).isLt
    have h1 : (x 1).val < 128 := (x 1).isLt
    have e0 : ((pc o inb (f n)).1.emb x 0).val = 0 + 1 * (x 0).val := rfl
    have e1 : ((pc o inb (f n)).1.emb x 1).val = o + 1 * (x 1).val := rfl
    unfold whole
    have hn : (⟨((pc o inb (f n)).1.emb x 1).val / 128, by rw [e1]; have := n.isLt; omega⟩ : Fin 16) = n := by
      apply Fin.ext; show ((pc o inb (f n)).1.emb x 1).val / 128 = n.val; rw [e1]; omega
    rw [hn]
    show f n x = f n _
    congr 1
    funext a; apply Fin.ext
    match a with
    | ⟨0, _⟩ => show (x 0).val = ((pc o inb (f n)).1.emb x 0).val; rw [e0]; omega
    | ⟨1, _⟩ => show (x 1).val = ((pc o inb (f n)).1.emb x 1).val % 128; rw [e1]; omega
  intro p hp
  simp only [pieces, List.mem_cons, List.not_mem_nil, or_false] at hp
  rcases hp with rfl | rfl | rfl | rfl | rfl | rfl | rfl | rfl | rfl | rfl | rfl | rfl | rfl | rfl | rfl | rfl <;>
    exact key _ _ (by rfl) _

end Cert.Own

end
-- ==== Proof.PiecesA.lean ====
/- What the body stores, as the sixteen column groups of one function. -/
module

public import proofs.«01_k».proof.Proof.Pieces

@[expose] public section

set_option maxRecDepth 16384

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
theorem runA_0  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : ¬cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).1 = pieces (fun n => hiF ((pB (gsumB (pk0 i arg3 harg3 x1) (pk1 i arg3 harg3 x1) (ldc arg2 harg2 x0)) (ld arg6 harg6 x4) (ld arg7 harg7 x5) (ld arg4 harg4 x2) (ld arg5 harg5 x3)) n)) := by sl_kernel_rfl

set_option maxHeartbeats 1000000 in
theorem runA_1  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : ¬cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.1 = pieces (fun n => loF ((pB (gsumB (pk0 i arg3 harg3 x1) (pk1 i arg3 harg3 x1) (ldc arg2 harg2 x0)) (ld arg6 harg6 x4) (ld arg7 harg7 x5) (ld arg4 harg4 x2) (ld arg5 harg5 x3)) n)) := by sl_kernel_rfl

set_option maxHeartbeats 1000000 in
theorem runA_2  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : ¬cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.1 = pieces (fun n => mF ((gsumB (pk0 i arg3 harg3 x1) (pk1 i arg3 harg3 x1) (ldc arg2 harg2 x0)) n) ((ld arg6 harg6 x4) n)) := by sl_kernel_rfl

set_option maxHeartbeats 1000000 in
theorem runA_3  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : ¬cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.1 = pieces (fun n => vF ((gsumB (pk0 i arg3 harg3 x1) (pk1 i arg3 harg3 x1) (ldc arg2 harg2 x0)) n) ((ld arg7 harg7 x5) n)) := by sl_kernel_rfl

set_option maxHeartbeats 1000000 in
theorem runA_4  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : ¬cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.2.1 = pieces (fun n => updF ((gsumB (pk0 i arg3 harg3 x1) (pk1 i arg3 harg3 x1) (ldc arg2 harg2 x0)) n) ((ld arg6 harg6 x4) n) ((ld arg7 harg7 x5) n) ((ld arg4 harg4 x2) n) ((ld arg5 harg5 x3) n)) := by sl_kernel_rfl

set_option maxHeartbeats 1000000 in
theorem runA_5  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : ¬cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.2.2.1 = pieces (fun n => codesF ((pB (gsumB (pk0 i arg3 harg3 x1) (pk1 i arg3 harg3 x1) (ldc arg2 harg2 x0)) (ld arg6 harg6 x4) (ld arg7 harg7 x5) (ld arg4 harg4 x2) (ld arg5 harg5 x3)) n)) := by sl_kernel_rfl

set_option maxHeartbeats 1000000 in
theorem runA_S  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : ¬cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.2.2.2.1 = [⟨Rect.unit (s := S256x128) (k0_off57 i) S32x128.size (k0_off57_inb i), shapeCast S32x128 (psB (pB (gsumB (pk0 i arg3 harg3 x1) (pk1 i arg3 harg3 x1) (ldc arg2 harg2 x0)) (ld arg6 harg6 x4) (ld arg7 harg7 x5) (ld arg4 harg4 x2) (ld arg5 harg5 x3))) shapeCasts_S32x128_S32x128⟩] := by sl_kernel_rfl

end Cert.Own

end
-- ==== Proof.PiecesB.lean ====
/- What the body stores, as the sixteen column groups of one function. -/
module

public import proofs.«01_k».proof.Proof.Pieces

@[expose] public section

set_option maxRecDepth 16384

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
theorem runB_0  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).1 = pieces (fun n => hiF ((pB (gsumB (pk0 i arg3 harg3 x1) (pk1 i arg3 harg3 x1) (ldc arg2 harg2 x0)) (ld arg6 harg6 x4) (ld arg7 harg7 x5) (ld arg4 harg4 x2) (ld arg5 harg5 x3)) n)) := by sl_kernel_rfl

set_option maxHeartbeats 1000000 in
theorem runB_1  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.1 = pieces (fun n => loF ((pB (gsumB (pk0 i arg3 harg3 x1) (pk1 i arg3 harg3 x1) (ldc arg2 harg2 x0)) (ld arg6 harg6 x4) (ld arg7 harg7 x5) (ld arg4 harg4 x2) (ld arg5 harg5 x3)) n)) := by sl_kernel_rfl

set_option maxHeartbeats 1000000 in
theorem runB_2  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.1 = pieces (fun n => mF ((gsumB (pk0 i arg3 harg3 x1) (pk1 i arg3 harg3 x1) (ldc arg2 harg2 x0)) n) ((ld arg6 harg6 x4) n)) := by sl_kernel_rfl

set_option maxHeartbeats 1000000 in
theorem runB_3  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.1 = pieces (fun n => vF ((gsumB (pk0 i arg3 harg3 x1) (pk1 i arg3 harg3 x1) (ldc arg2 harg2 x0)) n) ((ld arg7 harg7 x5) n)) := by sl_kernel_rfl

set_option maxHeartbeats 1000000 in
theorem runB_4  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.2.1 = pieces (fun n => updF ((gsumB (pk0 i arg3 harg3 x1) (pk1 i arg3 harg3 x1) (ldc arg2 harg2 x0)) n) ((ld arg6 harg6 x4) n) ((ld arg7 harg7 x5) n) ((ld arg4 harg4 x2) n) ((ld arg5 harg5 x3) n)) := by sl_kernel_rfl

set_option maxHeartbeats 1000000 in
theorem runB_5  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.2.2.1 = pieces (fun n => codesF ((pB (gsumB (pk0 i arg3 harg3 x1) (pk1 i arg3 harg3 x1) (ldc arg2 harg2 x0)) (ld arg6 harg6 x4) (ld arg7 harg7 x5) (ld arg4 harg4 x2) (ld arg5 harg5 x3)) n)) := by sl_kernel_rfl

set_option maxHeartbeats 1000000 in
theorem runB_S  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.2.2.2.2.1 = [⟨Rect.unit (s := S256x128) (k0_off57 i) S32x128.size (k0_off57_inb i), shapeCast S32x128 (psB (pB (gsumB (pk0 i arg3 harg3 x1) (pk1 i arg3 harg3 x1) (ldc arg2 harg2 x0)) (ld arg6 harg6 x4) (ld arg7 harg7 x5) (ld arg4 harg4 x2) (ld arg5 harg5 x3))) shapeCasts_S32x128_S32x128⟩] := by sl_kernel_rfl

set_option maxHeartbeats 1000000 in
theorem runB_P  (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 : Vec F S32x2048 .bf16) (x3 : Vec F S32x2048 .bf16) (x4 : Vec F S32x2048 .f32) (x5 : Vec F S32x2048 .f32) (xs : Vec F S256x128 .f32)  :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.2.2.2.1 = [⟨Rect.unit (s := S16x256) ![0, 0] S16x256.size inb_S16x256_S16x256_0_0, k0_pay2 (View.readAt (Elt F) arg15.view (Rect.unit (s := S256x128) ![0, 0] S256x128.size inb_S256x128_S256x128_0_0).toLoadRect (arg15.view.writes (Elt F) (harg15.unread (Val := Elt F) xs) [⟨Rect.unit (s := S256x128) (k0_off57 i) S32x128.size (k0_off57_inb i), shapeCast S32x128 (psB (pB (gsumB (pk0 i arg3 harg3 x1) (pk1 i arg3 harg3 x1) (ldc arg2 harg2 x0)) (ld arg6 harg6 x4) (ld arg7 harg7 x5) (ld arg4 harg4 x2) (ld arg5 harg5 x3))) shapeCasts_S32x128_S32x128⟩]))⟩] := by sl_kernel_rfl

end Cert.Own

end
-- ==== Proof.Body.lean ====
/- The kernel body at a grid point: what it leaves in its outputs and in the scratch. -/
module

public import proofs.«01_k».proof.Proof.Blocks
public import proofs.«01_k».proof.Proof.PiecesA
public import proofs.«01_k».proof.Proof.PiecesB
public import Idealize.ShloMosaic.Lib.WritesUnit

@[expose] public section

set_option maxRecDepth 16384

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch's offset of a grid point: 32 rows per row group. -/
theorem off57_eq (i : grid0.Coords) : k0_off57 i = ![32 * (i 1).val, 0] := by
  have h : (i 1).val < 8 := (i 1).isLt
  unfold k0_off57
  generalize (i 1).val = g at h ⊢
  interval_cases g <;> rfl

/-- The scratch with the 32 rows of the grid point's row group overwritten by `p`. -/
def put (i : grid0.Coords) (p : FVec F S32x128 .f32) (xs : Vec F S256x128 .f32) : Vec F S256x128 .f32 := fun y =>
  if (y 0).val / 32 = (i 1).val then p (ix2 ⟨(y 0).val % 32, Nat.mod_lt _ (by decide)⟩ ⟨(y 1).val, (y 1).isLt⟩) else xs y

theorem read_put (i : grid0.Coords) (arg15 : Memref sig .tc .vmem S256x128 .f32) (harg15 : arg15.IsWhole) (p : FVec F S32x128 .f32)
    (xs : Vec F S256x128 .f32) :
    arg15.view.read (Elt F) (arg15.view.writes (Elt F) (harg15.unread (Val := Elt F) xs)
      [⟨Rect.unit (s := S256x128) (k0_off57 i) S32x128.size (k0_off57_inb i), shapeCast S32x128 p shapeCasts_S32x128_S32x128⟩]) = put i p xs := by
  funext y
  have hi : (i 1).val < 8 := (i 1).isLt
  have h0 : (y 0).val < 256 := (y 0).isLt
  unfold put
  by_cases h : (y 0).val / 32 = (i 1).val
  · rw [if_pos h]
    refine (View.read_writes_cons_rows_of_mem (d := S256x128.size) _ _ (k0_off57_inb i) _ _ y
      (ix2 ⟨(y 0).val % 32, Nat.mod_lt _ (by decide)⟩ ⟨(y 1).val, (y 1).isLt⟩) (off57_eq i) ?_ rfl).trans ?_
    · show (y 0).val = 32 * (i 1).val + (y 0).val % 32; omega
    · rw [shapeCast_self]
  · rw [if_neg h]
    refine (View.read_writes_cons_rows_of_not_mem (d := S256x128.size) (W := 32) _ _ (k0_off57_inb i) _ _ y (off57_eq i) rfl ?_).trans ?_
    · omega
    · exact congrFun (harg15.read_unread xs) y

theorem read_ps (i : grid0.Coords) (arg14 : Memref sig .tc .vmem S16x256 .f32) (arg15 : Memref sig .tc .vmem S256x128 .f32) (harg15 : arg15.IsWhole)
    (p : FVec F S32x128 .f32) (xs : Vec F S256x128 .f32) (fb) :
    arg14.view.read (Elt F) (arg14.view.writes (Elt F) fb [⟨Rect.unit (s := S16x256) ![0, 0] S16x256.size inb_S16x256_S16x256_0_0,
      k0_pay2 (View.readAt (Elt F) arg15.view (Rect.unit (s := S256x128) ![0, 0] S256x128.size inb_S256x128_S256x128_0_0).toLoadRect
        (arg15.view.writes (Elt F) (harg15.unread (Val := Elt F) xs)
          [⟨Rect.unit (s := S256x128) (k0_off57 i) S32x128.size (k0_off57_inb i), shapeCast S32x128 p shapeCasts_S32x128_S32x128⟩]))⟩])
      = k0_pay2 (put i p xs) := by
  have e : View.readAt (Elt F) arg15.view (Rect.unit (s := S256x128) ![0, 0] S256x128.size inb_S256x128_S256x128_0_0).toLoadRect
        (arg15.view.writes (Elt F) (harg15.unread (Val := Elt F) xs)
          [⟨Rect.unit (s := S256x128) (k0_off57 i) S32x128.size (k0_off57_inb i), shapeCast S32x128 p shapeCasts_S32x128_S32x128⟩]) = put i p xs := by
    funext y
    have h := congrFun (read_put i arg15 harg15 p xs) ((Rect.unit (s := S256x128) ![0, 0] S256x128.size inb_S256x128_S256x128_0_0).toLoadRect.idx y)
    refine Eq.trans h (congrArg _ ?_)
    funext a; apply Fin.ext
    match a with
    | ⟨0, _⟩ => show 0 + 1 * (y 0).val = (y 0).val; omega
    | ⟨1, _⟩ => show 0 + 1 * (y 1).val = (y 1).val; omega
  rw [e]
  funext y
  refine (View.read_writes_cons_rows_of_mem (d := S16x256.size) (o := 0) _ _ inb_S16x256_S16x256_0_0 _ _ y y rfl ?_ rfl)
  show (y 0).val = 0 + (y 0).val; omega

/-- The high halves of the new parameters that a grid point leaves. -/
def hiW (i : grid0.Coords) (x0 : Vec F S28x32x2048 .fp8e5m2) (x1 : Vec F S28x16x256 .f32) (x2 x3 : Vec F S32x2048 .bf16) (x4 x5 : Vec F S32x2048 .f32) : Vec F S32x2048 .bf16 :=
  whole fun n => hiF (pT i x0 x1 x2 x3 x4 x5 n)

/-- The low halves of the new parameters that a grid point leaves. -/
def loW (i : grid0.Coords) (x0 : Vec F S28x32x2048 .fp8e5m2) (x1 : Vec F S28x16x256 .f32) (x2 x3 : Vec F S32x2048 .bf16) (x4 x5 : Vec F S32x2048 .f32) : Vec F S32x2048 .bf16 :=
  whole fun n => loF (pT i x0 x1 x2 x3 x4 x5 n)

/-- The new first moments that a grid point leaves. -/
def mW (i : grid0.Coords) (x0 : Vec F S28x32x2048 .fp8e5m2) (x1 : Vec F S28x16x256 .f32) (x2 x3 : Vec F S32x2048 .bf16) (x4 x5 : Vec F S32x2048 .f32) : Vec F S32x2048 .f32 :=
  whole fun n => mF (gsT i x0 x1 n) (blk x4 n)

/-- The new second moments that a grid point leaves. -/
def vW (i : grid0.Coords) (x0 : Vec F S28x32x2048 .fp8e5m2) (x1 : Vec F S28x16x256 .f32) (x2 x3 : Vec F S32x2048 .bf16) (x4 x5 : Vec F S32x2048 .f32) : Vec F S32x2048 .f32 :=
  whole fun n => vF (gsT i x0 x1 n) (blk x5 n)

/-- The updates that a grid point leaves. -/
def updW (i : grid0.Coords) (x0 : Vec F S28x32x2048 .fp8e5m2) (x1 : Vec F S28x16x256 .f32) (x2 x3 : Vec F S32x2048 .bf16) (x4 x5 : Vec F S32x2048 .f32) : Vec F S32x2048 .f32 :=
  whole fun n => updF (gsT i x0 x1 n) (blk x4 n) (blk x5 n) (blk x2 n) (blk x3 n)

/-- The codes of the new parameters that a grid point leaves. -/
def codesW (i : grid0.Coords) (x0 : Vec F S28x32x2048 .fp8e5m2) (x1 : Vec F S28x16x256 .f32) (x2 x3 : Vec F S32x2048 .bf16) (x4 x5 : Vec F S32x2048 .f32) : Vec F S32x2048 .fp8e4m3 :=
  whole fun n => codesF (pT i x0 x1 x2 x3 x4 x5 n)

/-- The scales that a grid point leaves in the scratch. -/
def psT (i : grid0.Coords) (x0 : Vec F S28x32x2048 .fp8e5m2) (x1 : Vec F S28x16x256 .f32) (x2 x3 : Vec F S32x2048 .bf16) (x4 x5 : Vec F S32x2048 .f32) : FVec F S32x128 .f32 :=
  psB (pT i x0 x1 x2 x3 x4 x5)

set_option maxHeartbeats 2000000 in
/-- The body where it does not store the scales of the column block. -/
theorem bodyA (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : ¬cond0_0 i)
    (x0 : Vec F S28x32x2048 .fp8e5m2) (x1 : Vec F S28x16x256 .f32) (x2 x3 : Vec F S32x2048 .bf16) (x4 x5 : Vec F S32x2048 .f32) (xs : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg15 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (hiW i x0 x1 x2 x3 x4 x5) ∗ owns (c : Thread nD τ) arg9 fullShare (loW i x0 x1 x2 x3 x4 x5) ∗ owns (c : Thread nD τ) arg10 fullShare (mW i x0 x1 x2 x3 x4 x5) ∗ owns (c : Thread nD τ) arg11 fullShare (vW i x0 x1 x2 x3 x4 x5) ∗ owns (c : Thread nD τ) arg12 fullShare (updW i x0 x1 x2 x3 x4 x5) ∗ owns (c : Thread nD τ) arg13 fullShare (codesW i x0 x1 x2 x3 x4 x5) ∗ owns (c : Thread nD τ) arg15 fullShare (put i (psT i x0 x1 x2 x3 x4 x5) xs)) -∗ K ⟨⟩))
      ⊢ wp frame (wpE (defs₀ (F := F)) Variants.none c none) E (cc0_reduce_adamw_requant i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, HS, Hk⟩
  iapply ((runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, ⟨%e6, H6⟩, ⟨%e7, H7⟩, ⟨%e8, H8⟩, ⟨%e9, H9⟩, ⟨%e10, H10⟩, ⟨%e11, H11⟩, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    rw [runA_0]; simp only [ld_eq, ldc_eq, pk0_eq, pk1_eq]; exact read_pieces arg8 e6 _
  isplitl [H7]
  · unfold owns; iexists _; isplitr
    swap; · iexact H7
    ipureintro
    rw [runA_1]; simp only [ld_eq, ldc_eq, pk0_eq, pk1_eq]; exact read_pieces arg9 e7 _
  isplitl [H8]
  · unfold owns; iexists _; isplitr
    swap; · iexact H8
    ipureintro
    rw [runA_2]; simp only [ld_eq, ldc_eq, pk0_eq, pk1_eq]; exact read_pieces arg10 e8 _
  isplitl [H9]
  · unfold owns; iexists _; isplitr
    swap; · iexact H9
    ipureintro
    rw [runA_3]; simp only [ld_eq, ldc_eq, pk0_eq, pk1_eq]; exact read_pieces arg11 e9 _
  isplitl [H10]
  · unfold owns; iexists _; isplitr
    swap; · iexact H10
    ipureintro
    rw [runA_4]; simp only [ld_eq, ldc_eq, pk0_eq, pk1_eq]; exact read_pieces arg12 e10 _
  isplitl [H11]
  · unfold owns; iexists _; isplitr
    swap; · iexact H11
    ipureintro
    rw [runA_5]; simp only [ld_eq, ldc_eq, pk0_eq, pk1_eq]; exact read_pieces arg13 e11 _
  unfold owns; iexists _; isplitr
  swap; · iexact HS
  ipureintro
  rw [runA_S]; simp only [ld_eq, ldc_eq, pk0_eq, pk1_eq]; exact read_put i arg15 harg15 _ xs

set_option maxHeartbeats 2000000 in
/-- The body where it also stores the scales of the column block. -/
theorem bodyB (c : Dev nD) (i : grid0.Coords) (arg2 : Memref sig .tc .vmem S28x32x2048 .fp8e5m2) (harg2 : arg2.IsWhole) (arg3 : Memref sig .tc .vmem S28x16x256 .f32) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S32x2048 .f32) (harg11 : arg11.IsWhole) (arg12 : Memref sig .tc .vmem S32x2048 .f32) (harg12 : arg12.IsWhole) (arg13 : Memref sig .tc .vmem S32x2048 .fp8e4m3) (harg13 : arg13.IsWhole) (arg14 : Memref sig .tc .vmem S16x256 .f32) (harg14 : arg14.IsWhole) (arg15 : Memref sig .tc .vmem S256x128 .f32) (harg15 : arg15.IsWhole) (hc0 : cond0_0 i)
    (x0 : Vec F S28x32x2048 .fp8e5m2) (x1 : Vec F S28x16x256 .f32) (x2 x3 : Vec F S32x2048 .bf16) (x4 x5 : Vec F S32x2048 .f32) (xs : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (hiW i x0 x1 x2 x3 x4 x5) ∗ owns (c : Thread nD τ) arg9 fullShare (loW i x0 x1 x2 x3 x4 x5) ∗ owns (c : Thread nD τ) arg10 fullShare (mW i x0 x1 x2 x3 x4 x5) ∗ owns (c : Thread nD τ) arg11 fullShare (vW i x0 x1 x2 x3 x4 x5) ∗ owns (c : Thread nD τ) arg12 fullShare (updW i x0 x1 x2 x3 x4 x5) ∗ owns (c : Thread nD τ) arg13 fullShare (codesW i x0 x1 x2 x3 x4 x5) ∗ owns (c : Thread nD τ) arg14 fullShare (k0_pay2 (put i (psT i x0 x1 x2 x3 x4 x5) xs)) ∗ owns (c : Thread nD τ) arg15 fullShare (put i (psT i x0 x1 x2 x3 x4 x5) xs)) -∗ K ⟨⟩))
      ⊢ wp frame (wpE (defs₀ (F := F)) Variants.none c none) E (cc0_reduce_adamw_requant i arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, H10, H11, H12, HS, Hk⟩
  iapply ((runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs).2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, ⟨%e6, H6⟩, ⟨%e7, H7⟩, ⟨%e8, H8⟩, ⟨%e9, H9⟩, ⟨%e10, H10⟩, ⟨%e11, H11⟩, ⟨%e12, H12⟩, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    rw [runB_0]; simp only [ld_eq, ldc_eq, pk0_eq, pk1_eq]; exact read_pieces arg8 e6 _
  isplitl [H7]
  · unfold owns; iexists _; isplitr
    swap; · iexact H7
    ipureintro
    rw [runB_1]; simp only [ld_eq, ldc_eq, pk0_eq, pk1_eq]; exact read_pieces arg9 e7 _
  isplitl [H8]
  · unfold owns; iexists _; isplitr
    swap; · iexact H8
    ipureintro
    rw [runB_2]; simp only [ld_eq, ldc_eq, pk0_eq, pk1_eq]; exact read_pieces arg10 e8 _
  isplitl [H9]
  · unfold owns; iexists _; isplitr
    swap; · iexact H9
    ipureintro
    rw [runB_3]; simp only [ld_eq, ldc_eq, pk0_eq, pk1_eq]; exact read_pieces arg11 e9 _
  isplitl [H10]
  · unfold owns; iexists _; isplitr
    swap; · iexact H10
    ipureintro
    rw [runB_4]; simp only [ld_eq, ldc_eq, pk0_eq, pk1_eq]; exact read_pieces arg12 e10 _
  isplitl [H11]
  · unfold owns; iexists _; isplitr
    swap; · iexact H11
    ipureintro
    rw [runB_5]; simp only [ld_eq, ldc_eq, pk0_eq, pk1_eq]; exact read_pieces arg13 e11 _
  isplitl [H12]
  · unfold owns; iexists _; isplitr
    swap; · iexact H12
    ipureintro
    rw [runB_P]; simp only [ld_eq, ldc_eq, pk0_eq, pk1_eq]; exact read_ps i arg14 arg15 harg15 _ xs e12
  unfold owns; iexists _; isplitr
  swap; · iexact HS
  ipureintro
  rw [runB_S]; simp only [ld_eq, ldc_eq, pk0_eq, pk1_eq]; exact read_put i arg15 harg15 _ xs

end Cert.Own

end
-- ==== Proof.Run.lean ====
/- The whole run of the idealized kernel: what each grid point leaves, the scratch from point to point, and the launch. -/
module

public import proofs.«01_k».proof.Proof.Body
public import Idealize.ShloMosaic.Lib.Claim

@[expose] public section

set_option maxRecDepth 16384

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem N_56 : cfg0.N = 56 := N_0

/-- The grid point of a number. -/
def pt (n : ℕ) : Fin cfg0.N := ⟨n % 56, lt_of_lt_of_eq (Nat.mod_lt _ (by decide)) N_56.symm⟩

theorem pt_eq (t : Fin cfg0.N) (n : ℕ) (h : n = t.val) : pt n = t := by
  apply Fin.ext; subst h
  exact Nat.mod_eq_of_lt (lt_of_lt_of_eq t.isLt N_56)

/-- The row group of a grid point. -/
theorem coord1 (t : Fin cfg0.N) : (grid0.coords t 1).val = t.val % 8 := by
  have e1 : (grid0.coords t 1).val = t.val / 1 % 8 := Pipeline.Grid.coords_val t 1 (by decide) rfl
  rw [e1, Nat.div_one]

/-- The scales that grid point `t` computes, one column group per lane. -/
def psAt (c : Dev nD) (t : Fin cfg0.N) : FVec F S32x128 .f32 :=
  psT (grid0.coords t) (iblk m c 0 t) (iblk m c 1 t) (iblk m c 2 t) (iblk m c 3 t) (iblk m c 4 t) (iblk m c 5 t)

/-- The scratch once all row groups of column block `k` are through. -/
def scr (c : Dev nD) (k : ℕ) : Vec F S256x128 .f32 := fun y =>
  psAt m c (pt (8 * k + (y 0).val / 32)) (ix2 ⟨(y 0).val % 32, Nat.mod_lt _ (by decide)⟩ ⟨(y 1).val, (y 1).isLt⟩)

/-- The scratch before point `n` holds the rows of the row groups of its column block that are through. -/
def scrOk (c : Dev nD) (n : ℕ) (d : Vec F S256x128 .f32) : Prop :=
  ∀ y : S256x128.Idx, (y 0).val / 32 < n % 8 → d y = scr m c (n / 8) y

theorem put_ok (c : Dev nD) (t : Fin cfg0.N) (d : Vec F S256x128 .f32) (h : scrOk m c t.val d) (y : S256x128.Idx)
    (hy : (y 0).val / 32 < t.val % 8 + 1) : put (grid0.coords t) (psAt m c t) d y = scr m c (t.val / 8) y := by
  unfold put
  rw [coord1]
  by_cases e : (y 0).val / 32 = t.val % 8
  · rw [if_pos e]
    unfold scr
    rw [pt_eq t _ (by rw [e]; omega)]
  · rw [if_neg e]
    exact h y (by omega)

theorem scrOk_step (c : Dev nD) (t : Fin cfg0.N) (d : Vec F S256x128 .f32) (h : scrOk m c t.val d) :
    scrOk m c (t.val + 1) (put (grid0.coords t) (psAt m c t) d) := by
  intro y hy
  rw [put_ok m c t d h y (by omega)]
  have : (t.val + 1) / 8 = t.val / 8 := by omega
  rw [this]

theorem put_full (c : Dev nD) (t : Fin cfg0.N) (d : Vec F S256x128 .f32) (h : scrOk m c t.val d) (h7 : t.val % 8 = 7) :
    put (grid0.coords t) (psAt m c t) d = scr m c (t.val / 8) := by
  funext y
  have h0 : (y 0).val < 256 := (y 0).isLt
  exact put_ok m c t d h y (by omega)

/-- The kernel's own resources before point `t`: the scratch, and the generator register. -/
def PhiT (c : Dev nD) (n : ℕ) : sProp 𝕄 :=
  iprop(iprop((∃ d, iprop(⌜scrOk m c n d⌝ ∗ owns (c : Thread nD τ) scM0_0 fullShare d))) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiW (grid0.coords t) (iblk m c 0 t) (iblk m c 1 t) (iblk m c 2 t) (iblk m c 3 t) (iblk m c 4 t) (iblk m c 5 t)
    | ⟨7, _⟩ => loW (grid0.coords t) (iblk m c 0 t) (iblk m c 1 t) (iblk m c 2 t) (iblk m c 3 t) (iblk m c 4 t) (iblk m c 5 t)
    | ⟨8, _⟩ => mW (grid0.coords t) (iblk m c 0 t) (iblk m c 1 t) (iblk m c 2 t) (iblk m c 3 t) (iblk m c 4 t) (iblk m c 5 t)
    | ⟨9, _⟩ => vW (grid0.coords t) (iblk m c 0 t) (iblk m c 1 t) (iblk m c 2 t) (iblk m c 3 t) (iblk m c 4 t) (iblk m c 5 t)
    | ⟨10, _⟩ => updW (grid0.coords t) (iblk m c 0 t) (iblk m c 1 t) (iblk m c 2 t) (iblk m c 3 t) (iblk m c 4 t) (iblk m c 5 t)
    | ⟨11, _⟩ => codesW (grid0.coords t) (iblk m c 0 t) (iblk m c 1 t) (iblk m c 2 t) (iblk m c 3 t) (iblk m c 4 t) (iblk m c 5 t)
    | ⟨12, _⟩ => k0_pay2 (scr m c (t.val / 8))
  Φ t := PhiT m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hiW (grid0.coords t) (iblk m c 0 t) (iblk m c 1 t) (iblk m c 2 t) (iblk m c 3 t) (iblk m c 4 t) (iblk m c 5 t) := by dsimp only [dats]
theorem after0_7 (c : Dev nD) (t : Fin cfg0.N) : (dats m 0 c).after 7 t = loW (grid0.coords t) (iblk m c 0 t) (iblk m c 1 t) (iblk m c 2 t) (iblk m c 3 t) (iblk m c 4 t) (iblk m c 5 t) := by dsimp only [dats]
theorem after0_8 (c : Dev nD) (t : Fin cfg0.N) : (dats m 0 c).after 8 t = mW (grid0.coords t) (iblk m c 0 t) (iblk m c 1 t) (iblk m c 2 t) (iblk m c 3 t) (iblk m c 4 t) (iblk m c 5 t) := by dsimp only [dats]
theorem after0_9 (c : Dev nD) (t : Fin cfg0.N) : (dats m 0 c).after 9 t = vW (grid0.coords t) (iblk m c 0 t) (iblk m c 1 t) (iblk m c 2 t) (iblk m c 3 t) (iblk m c 4 t) (iblk m c 5 t) := by dsimp only [dats]
theorem after0_10 (c : Dev nD) (t : Fin cfg0.N) : (dats m 0 c).after 10 t = updW (grid0.coords t) (iblk m c 0 t) (iblk m c 1 t) (iblk m c 2 t) (iblk m c 3 t) (iblk m c 4 t) (iblk m c 5 t) := by dsimp only [dats]
theorem after0_11 (c : Dev nD) (t : Fin cfg0.N) : (dats m 0 c).after 11 t = codesW (grid0.coords t) (iblk m c 0 t) (iblk m c 1 t) (iblk m c 2 t) (iblk m c 3 t) (iblk m c 4 t) (iblk m c 5 t) := by dsimp only [dats]
theorem after0_12 (c : Dev nD) (t : Fin cfg0.N) : (dats m 0 c).after 12 t = k0_pay2 (scr m c (t.val / 8)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl

/-- Window 12 is live where the scales of a column block are stored, -/
theorem liveAt0_12 : ∀ t : Fin cfg0.N, t.val % 8 = 7 → cfg0.idle 12 (grid0.coords t) = false :=
  (by decide +kernel : ∀ t : Fin grid0.N, _)
/-- and idle elsewhere, -/
theorem idleAt0_12 : ∀ t : Fin cfg0.N, t.val % 8 ≠ 7 → cfg0.idle 12 (grid0.coords t) = true :=
  (by decide +kernel : ∀ t : Fin grid0.N, _)
/-- where nothing is written back. -/
theorem flush0_12 : ∀ t : Fin cfg0.N, t.val % 8 ≠ 7 → (cfg0.win 12).flush t = false :=
  (by decide +kernel : ∀ t : Fin grid0.N, _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- A window that is not idle at a point is left at what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = PhiT m c t.val from rfl, show (dats m 0 c).Φ t.succ = PhiT m c (t.val + 1) from rfl]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 8 t (liveAt0_8 t), after0_8]
  rw [leaves_live m c 9 t (liveAt0_9 t), after0_9]
  rw [leaves_live m c 10 t (liveAt0_10 t), after0_10]
  rw [leaves_live m c 11 t (liveAt0_11 t), after0_11]
  unfold PhiT
  by_cases h0 : t.val % 8 = 7
  · rw [leaves_live m c 12 t (liveAt0_12 t h0), after0_12]
    iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyB c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, H8, H9, H10, H11, H12, HS⟩
    isplitl [HS Hg]
    · isplitl [HS]
      · iexists _; isplitr
        swap; · iexact HS
        ipureintro; exact scrOk_step m c t ds hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    rw [← put_full m c t ds hs h0]
    iexact H12
  · rw [(dats m 0 c).leavesExact_idle 12 t (idleAt0_12 t h0) (flush0_12 t h0)]
    iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyA c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, H9, H10, H11, HS⟩
    isplitl [HS Hg]
    · isplitl [HS]
      · iexists _; isplitr
        swap; · iexact HS
        ipureintro; exact scrOk_step m c t ds hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : Pipeline.ΦA spec0 c ⊢ (dats m 0 c).Φ 0 := by
  rw [show (dats m 0 c).Φ 0 = PhiT m c 0 from rfl, PhiA0_eq]
  unfold PhiT
  iintro ⟨⟨%d, H⟩, Hg⟩
  isplitl [H]
  · iexists d; isplitr
    swap; · iexact H
    ipureintro; intro y hy; exact absurd hy (Nat.not_lt_zero _)
  iexact Hg

theorem phi_out (c : Dev nD) : (dats m 0 c).Φ (Fin.last cfg0.N) ⊢ Pipeline.ΦA spec0 c := by
  rw [show (dats m 0 c).Φ (Fin.last cfg0.N) = PhiT m c cfg0.N from rfl, PhiA0_eq]
  unfold PhiT
  iintro ⟨⟨%d, %hd, H⟩, Hg⟩
  isplitl [H]
  · iexists d; iexact H
  iexact Hg

set_option backward.isDefEq.respectTransparency.types false in
set_option maxHeartbeats 800000 in
/-- The launch: every array of the pipeline ends at what the proof data says, the host lines after the region done, every
    semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m) (hQ' := fun _ h => h)

/-- The idealized kernel terminates, and its argument arrays and its semaphores end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Own

end
-- ==== Proof.ScaleV.lean ====
/- The offsets of the loads of the scales, and the rank's scales of a row group read at an index, over the extended reals. -/
module

public import proofs.«01_k».proof.Proof.Blocks
public import Idealize.ShloMosaic.Lib.Pointwise
public import Idealize.ShloMosaic.PureOps.Ideal.Laws

@[expose] public section

set_option maxRecDepth 16384

noncomputable section

namespace Cert.Own

open Idealize.ShloMosaic Idealize.ShloMosaic.TcCoe
open Cert.KernelIdeal Cert.KernelIdeal.Gen

theorem off1_eq (i : grid0.Coords) : k0_off1 i = ![0, 0, 128 * ((i 1).val / 4)] := by
  have h : (i 1).val < 8 := (i 1).isLt
  unfold k0_off1; generalize (i 1).val = g at h ⊢; interval_cases g <;> rfl
theorem off2_eq (i : grid0.Coords) : k0_off2 i = ![1, 0, 128 * ((i 1).val / 4)] := by
  have h : (i 1).val < 8 := (i 1).isLt
  unfold k0_off2; generalize (i 1).val = g at h ⊢; interval_cases g <;> rfl
theorem off3_eq (i : grid0.Coords) : k0_off3 i = ![2, 0, 128 * ((i 1).val / 4)] := by
  have h : (i 1).val < 8 := (i 1).isLt
  unfold k0_off3; generalize (i 1).val = g at h ⊢; interval_cases g <;> rfl
theorem off4_eq (i : grid0.Coords) : k0_off4 i = ![3, 0, 128 * ((i 1).val / 4)] := by
  have h : (i 1).val < 8 := (i 1).isLt
  unfold k0_off4; generalize (i 1).val = g at h ⊢; interval_cases g <;> rfl
theorem off5_eq (i : grid0.Coords) : k0_off5 i = ![4, 0, 128 * ((i 1).val / 4)] := by
  have h : (i 1).val < 8 := (i 1).isLt
  unfold k0_off5; generalize (i 1).val = g at h ⊢; interval_cases g <;> rfl
theorem off6_eq (i : grid0.Coords) : k0_off6 i = ![5, 0, 128 * ((i 1).val / 4)] := by
  have h : (i 1).val < 8 := (i 1).isLt
  unfold k0_off6; generalize (i 1).val = g at h ⊢; interval_cases g <;> rfl
theorem off7_eq (i : grid0.Coords) : k0_off7 i = ![6, 0, 128 * ((i 1).val / 4)] := by
  have h : (i 1).val < 8 := (i 1).isLt
  unfold k0_off7; generalize (i 1).val = g at h ⊢; interval_cases g <;> rfl
theorem off8_eq (i : grid0.Coords) : k0_off8 i = ![7, 0, 128 * ((i 1).val / 4)] := by
  have h : (i 1).val < 8 := (i 1).isLt
  unfold k0_off8; generalize (i 1).val = g at h ⊢; interval_cases g <;> rfl
theorem off9_eq (i : grid0.Coords) : k0_off9 i = ![8, 0, 128 * ((i 1).val / 4)] := by
  have h : (i 1).val < 8 := (i 1).isLt
  unfold k0_off9; generalize (i 1).val = g at h ⊢; interval_cases g <;> rfl
theorem off10_eq (i : grid0.Coords) : k0_off10 i = ![9, 0, 128 * ((i 1).val / 4)] := by
  have h : (i 1).val < 8 := (i 1).isLt
  unfold k0_off10; generalize (i 1).val = g at h ⊢; interval_cases g <;> rfl
theorem off11_eq (i : grid0.Coords) : k0_off11 i = ![10, 0, 128 * ((i 1).val / 4)] := by
  have h : (i 1).val < 8 := (i 1).isLt
  unfold k0_off11; generalize (i 1).val = g at h ⊢; interval_cases g <;> rfl
theorem off12_eq (i : grid0.Coords) : k0_off12 i = ![11, 0, 128 * ((i 1).val / 4)] := by
  have h : (i 1).val < 8 := (i 1).isLt
  unfold k0_off12; generalize (i 1).val = g at h ⊢; interval_cases g <;> rfl
theorem off13_eq (i : grid0.Coords) : k0_off13 i = ![12, 0, 128 * ((i 1).val / 4)] := by
  have h : (i 1).val < 8 := (i 1).isLt
  unfold k0_off13; generalize (i 1).val = g at h ⊢; interval_cases g <;> rfl
theorem off14_eq (i : grid0.Coords) : k0_off14 i = ![13, 0, 128 * ((i 1).val / 4)] := by
  have h : (i 1).val < 8 := (i 1).isLt
  unfold k0_off14; generalize (i 1).val = g at h ⊢; interval_cases g <;> rfl
theorem off15_eq (i : grid0.Coords) : k0_off15 i = ![14, 0, 128 * ((i 1).val / 4)] := by
  have h : (i 1).val < 8 := (i 1).isLt
  unfold k0_off15; generalize (i 1).val = g at h ⊢; interval_cases g <;> rfl
theorem off16_eq (i : grid0.Coords) : k0_off16 i = ![15, 0, 128 * ((i 1).val / 4)] := by
  have h : (i 1).val < 8 := (i 1).isLt
  unfold k0_off16; generalize (i 1).val = g at h ⊢; interval_cases g <;> rfl
theorem off17_eq (i : grid0.Coords) : k0_off17 i = ![16, 0, 128 * ((i 1).val / 4)] := by
  have h : (i 1).val < 8 := (i 1).isLt
  unfold k0_off17; generalize (i 1).val = g at h ⊢; interval_cases g <;> rfl
theorem off18_eq (i : grid0.Coords) : k0_off18 i = ![17, 0, 128 * ((i 1).val / 4)] := by
  have h : (i 1).val < 8 := (i 1).isLt
  unfold k0_off18; generalize (i 1).val = g at h ⊢; interval_cases g <;> rfl
theorem off19_eq (i : grid0.Coords) : k0_off19 i = ![18, 0, 128 * ((i 1).val / 4)] := by
  have h : (i 1).val < 8 := (i 1).isLt
  unfold k0_off19; generalize (i 1).val = g at h ⊢; interval_cases g <;> rfl
theorem off20_eq (i : grid0.Coords) : k0_off20 i = ![19, 0, 128 * ((i 1).val / 4)] := by
  have h : (i 1).val < 8 := (i 1).isLt
  unfold k0_off20; generalize (i 1).val = g at h ⊢; interval_cases g <;> rfl
theorem off21_eq (i : grid0.Coords) : k0_off21 i = ![20, 0, 128 * ((i 1).val / 4)] := by
  have h : (i 1).val < 8 := (i 1).isLt
  unfold k0_off21; generalize (i 1).val = g at h ⊢; interval_cases g <;> rfl
theorem off22_eq (i : grid0.Coords) : k0_off22 i = ![21, 0, 128 * ((i 1).val / 4)] := by
  have h : (i 1).val < 8 := (i 1).isLt
  unfold k0_off22; generalize (i 1).val = g at h ⊢; interval_cases g <;> rfl
theorem off23_eq (i : grid0.Coords) : k0_off23 i = ![22, 0, 128 * ((i 1).val / 4)] := by
  have h : (i 1).val < 8 := (i 1).isLt
  unfold k0_off23; generalize (i 1).val = g at h ⊢; interval_cases g <;> rfl
theorem off24_eq (i : grid0.Coords) : k0_off24 i = ![23, 0, 128 * ((i 1).val / 4)] := by
  have h : (i 1).val < 8 := (i 1).isLt
  unfold k0_off24; generalize (i 1).val = g at h ⊢; interval_cases g <;> rfl
theorem off25_eq (i : grid0.Coords) : k0_off25 i = ![24, 0, 128 * ((i 1).val / 4)] := by
  have h : (i 1).val < 8 := (i 1).isLt
  unfold k0_off25; generalize (i 1).val = g at h ⊢; interval_cases g <;> rfl
theorem off26_eq (i : grid0.Coords) : k0_off26 i = ![25, 0, 128 * ((i 1).val / 4)] := by
  have h : (i 1).val < 8 := (i 1).isLt
  unfold k0_off26; generalize (i 1).val = g at h ⊢; interval_cases g <;> rfl
theorem off27_eq (i : grid0.Coords) : k0_off27 i = ![26, 0, 128 * ((i 1).val / 4)] := by
  have h : (i 1).val < 8 := (i 1).isLt
  unfold k0_off27; generalize (i 1).val = g at h ⊢; interval_cases g <;> rfl
theorem off28_eq (i : grid0.Coords) : k0_off28 i = ![27, 0, 128 * ((i 1).val / 4)] := by
  have h : (i 1).val < 8 := (i 1).isLt
  unfold k0_off28; generalize (i 1).val = g at h ⊢; interval_cases g <;> rfl
theorem off29_eq (i : grid0.Coords) : k0_off29 i = ![0, 8, 128 * ((i 1).val / 4)] := by
  have h : (i 1).val < 8 := (i 1).isLt
  unfold k0_off29; generalize (i 1).val = g at h ⊢; interval_cases g <;> rfl
theorem off30_eq (i : grid0.Coords) : k0_off30 i = ![1, 8, 128 * ((i 1).val / 4)] := by
  have h : (i 1).val < 8 := (i 1).isLt
  unfold k0_off30; generalize (i 1).val = g at h ⊢; interval_cases g <;> rfl
theorem off31_eq (i : grid0.Coords) : k0_off31 i = ![2, 8, 128 * ((i 1).val / 4)] := by
  have h : (i 1).val < 8 := (i 1).isLt
  unfold k0_off31; generalize (i 1).val = g at h ⊢; interval_cases g <;> rfl
theorem off32_eq (i : grid0.Coords) : k0_off32 i = ![3, 8, 128 * ((i 1).val / 4)] := by
  have h : (i 1).val < 8 := (i 1).isLt
  unfold k0_off32; generalize (i 1).val = g at h ⊢; interval_cases g <;> rfl
theorem off33_eq (i : grid0.Coords) : k0_off33 i = ![4, 8, 128 * ((i 1).val / 4)] := by
  have h : (i 1).val < 8 := (i 1).isLt
  unfold k0_off33; generalize (i 1).val = g at h ⊢; interval_cases g <;> rfl
theorem off34_eq (i : grid0.Coords) : k0_off34 i = ![5, 8, 128 * ((i 1).val / 4)] := by
  have h : (i 1).val < 8 := (i 1).isLt
  unfold k0_off34; generalize (i 1).val = g at h ⊢; interval_cases g <;> rfl
theorem off35_eq (i : grid0.Coords) : k0_off35 i = ![6, 8, 128 * ((i 1).val / 4)] := by
  have h : (i 1).val < 8 := (i 1).isLt
  unfold k0_off35; generalize (i 1).val = g at h ⊢; interval_cases g <;> rfl
theorem off36_eq (i : grid0.Coords) : k0_off36 i = ![7, 8, 128 * ((i 1).val / 4)] := by
  have h : (i 1).val < 8 := (i 1).isLt
  unfold k0_off36; generalize (i 1).val = g at h ⊢; interval_cases g <;> rfl
theorem off37_eq (i : grid0.Coords) : k0_off37 i = ![8, 8, 128 * ((i 1).val / 4)] := by
  have h : (i 1).val < 8 := (i 1).isLt
  unfold k0_off37; generalize (i 1).val = g at h ⊢; interval_cases g <;> rfl
theorem off38_eq (i : grid0.Coords) : k0_off38 i = ![9, 8, 128 * ((i 1).val / 4)] := by
  have h : (i 1).val < 8 := (i 1).isLt
  unfold k0_off38; generalize (i 1).val = g at h ⊢; interval_cases g <;> rfl
theorem off39_eq (i : grid0.Coords) : k0_off39 i = ![10, 8, 128 * ((i 1).val / 4)] := by
  have h : (i 1).val < 8 := (i 1).isLt
  unfold k0_off39; generalize (i 1).val = g at h ⊢; interval_cases g <;> rfl
theorem off40_eq (i : grid0.Coords) : k0_off40 i = ![11, 8, 128 * ((i 1).val / 4)] := by
  have h : (i 1).val < 8 := (i 1).isLt
  unfold k0_off40; generalize (i 1).val = g at h ⊢; interval_cases g <;> rfl
theorem off41_eq (i : grid0.Coords) : k0_off41 i = ![12, 8, 128 * ((i 1).val / 4)] := by
  have h : (i 1).val < 8 := (i 1).isLt
  unfold k0_off41; generalize (i 1).val = g at h ⊢; interval_cases g <;> rfl
theorem off42_eq (i : grid0.Coords) : k0_off42 i = ![13, 8, 128 * ((i 1).val / 4)] := by
  have h : (i 1).val < 8 := (i 1).isLt
  unfold k0_off42; generalize (i 1).val = g at h ⊢; interval_cases g <;> rfl
theorem off43_eq (i : grid0.Coords) : k0_off43 i = ![14, 8, 128 * ((i 1).val / 4)] := by
  have h : (i 1).val < 8 := (i 1).isLt
  unfold k0_off43; generalize (i 1).val = g at h ⊢; interval_cases g <;> rfl
theorem off44_eq (i : grid0.Coords) : k0_off44 i = ![15, 8, 128 * ((i 1).val / 4)] := by
  have h : (i 1).val < 8 := (i 1).isLt
  unfold k0_off44; generalize (i 1).val = g at h ⊢; interval_cases g <;> rfl
theorem off45_eq (i : grid0.Coords) : k0_off45 i = ![16, 8, 128 * ((i 1).val / 4)] := by
  have h : (i 1).val < 8 := (i 1).isLt
  unfold k0_off45; generalize (i 1).val = g at h ⊢; interval_cases g <;> rfl
theorem off46_eq (i : grid0.Coords) : k0_off46 i = ![17, 8, 128 * ((i 1).val / 4)] := by
  have h : (i 1).val < 8 := (i 1).isLt
  unfold k0_off46; generalize (i 1).val = g at h ⊢; interval_cases g <;> rfl
theorem off47_eq (i : grid0.Coords) : k0_off47 i = ![18, 8, 128 * ((i 1).val / 4)] := by
  have h : (i 1).val < 8 := (i 1).isLt
  unfold k0_off47; generalize (i 1).val = g at h ⊢; interval_cases g <;> rfl
theorem off48_eq (i : grid0.Coords) : k0_off48 i = ![19, 8, 128 * ((i 1).val / 4)] := by
  have h : (i 1).val < 8 := (i 1).isLt
  unfold k0_off48; generalize (i 1).val = g at h ⊢; interval_cases g <;> rfl
theorem off49_eq (i : grid0.Coords) : k0_off49 i = ![20, 8, 128 * ((i 1).val / 4)] := by
  have h : (i 1).val < 8 := (i 1).isLt
  unfold k0_off49; generalize (i 1).val = g at h ⊢; interval_cases g <;> rfl
theorem off50_eq (i : grid0.Coords) : k0_off50 i = ![21, 8, 128 * ((i 1).val / 4)] := by
  have h : (i 1).val < 8 := (i 1).isLt
  unfold k0_off50; generalize (i 1).val = g at h ⊢; interval_cases g <;> rfl
theorem off51_eq (i : grid0.Coords) : k0_off51 i = ![22, 8, 128 * ((i 1).val / 4)] := by
  have h : (i 1).val < 8 := (i 1).isLt
  unfold k0_off51; generalize (i 1).val = g at h ⊢; interval_cases g <;> rfl
theorem off52_eq (i : grid0.Coords) : k0_off52 i = ![23, 8, 128 * ((i 1).val / 4)] := by
  have h : (i 1).val < 8 := (i 1).isLt
  unfold k0_off52; generalize (i 1).val = g at h ⊢; interval_cases g <;> rfl
theorem off53_eq (i : grid0.Coords) : k0_off53 i = ![24, 8, 128 * ((i 1).val / 4)] := by
  have h : (i 1).val < 8 := (i 1).isLt
  unfold k0_off53; generalize (i 1).val = g at h ⊢; interval_cases g <;> rfl
theorem off54_eq (i : grid0.Coords) : k0_off54 i = ![25, 8, 128 * ((i 1).val / 4)] := by
  have h : (i 1).val < 8 := (i 1).isLt
  unfold k0_off54; generalize (i 1).val = g at h ⊢; interval_cases g <;> rfl
theorem off55_eq (i : grid0.Coords) : k0_off55 i = ![26, 8, 128 * ((i 1).val / 4)] := by
  have h : (i 1).val < 8 := (i 1).isLt
  unfold k0_off55; generalize (i 1).val = g at h ⊢; interval_cases g <;> rfl
theorem off56_eq (i : grid0.Coords) : k0_off56 i = ![27, 8, 128 * ((i 1).val / 4)] := by
  have h : (i 1).val < 8 := (i 1).isLt
  unfold k0_off56; generalize (i 1).val = g at h ⊢; interval_cases g <;> rfl

theorem shiftW_eq (i : grid0.Coords) : shiftW i = BitVec.ofNat 32 (32 * ((i 1).val % 4)) := by
  have h : (i 1).val < 8 := (i 1).isLt
  unfold shiftW
  generalize (i 1).val = g at h ⊢
  interval_cases g <;> rfl

theorem rotW_eq (k g : ℕ) (hk : k < 4) (hg : g < 4) : (rotW (BitVec.ofNat 32 (128 + 32 * k)) (BitVec.ofNat 32 (32 * g))).toNat = (128 + 32 * k - 32 * g) % 128 := by
  interval_cases k <;> interval_cases g <;> rfl

theorem grp_eq (o : Fin 8) (l : Fin 128) : k0_pay7 (ix2 o l) = BitVec.ofNat 32 (l.val / 32) := by
  pointwise [k0_pay7]
  clear o; revert l
  decide +kernel

theorem rot_eq (k sh : BitVec 32) (x : Vec Ideal S1x8x128 .f32) (o : Fin 8) (l l' : Fin 128) (n : ℕ) (hn : (rotW k sh).toNat = n)
    (hl : l'.val = (l.val + 128 - n % 128) % 128) : rot (F := Ideal) k sh x (ix2 o l) = x (ix3 (0 : Fin 1) o l') := by
  pointwise [rot]
  congr 2
  apply Fin.ext
  rw [hl, ← hn]

/-- Four ranks' scales side by side: lane group `k` holds rank `k`'s 32 lanes of the row group. -/
theorem packed_eq (g : ℕ) (hg : g < 4) (x : Fin 4 → Vec Ideal S1x8x128 .f32) (o : Fin 8) (l : Fin 128) :
    packed (F := Ideal) (BitVec.ofNat 32 (32 * g)) (x 0) (x 1) (x 2) (x 3) (ix2 o l)
      = x ⟨l.val / 32, by omega⟩ (ix3 (0 : Fin 1) o ⟨32 * g + l.val % 32, by omega⟩) := by
  unfold packed
  show Scalar.select (IntOp.cmpi .eq (k0_pay7 (ix2 o l)) 3#32) (rot (F := Ideal) 224#32 (BitVec.ofNat 32 (32 * g)) (x 3) (ix2 o l))
    (Scalar.select (IntOp.cmpi .eq (k0_pay7 (ix2 o l)) 2#32) (rot (F := Ideal) 192#32 (BitVec.ofNat 32 (32 * g)) (x 2) (ix2 o l))
      (Scalar.select (IntOp.cmpi .eq (k0_pay7 (ix2 o l)) 1#32) (rot (F := Ideal) 160#32 (BitVec.ofNat 32 (32 * g)) (x 1) (ix2 o l))
        (rot (F := Ideal) 128#32 (BitVec.ofNat 32 (32 * g)) (x 0) (ix2 o l)))) = _
  rw [grp_eq]
  have hr : ∀ k : Fin 4, l.val / 32 = k.val → rot (F := Ideal) (BitVec.ofNat 32 (128 + 32 * k.val)) (BitVec.ofNat 32 (32 * g)) (x k) (ix2 o l)
      = x ⟨l.val / 32, by omega⟩ (ix3 (0 : Fin 1) o ⟨32 * g + l.val % 32, by omega⟩) := by
    intro k hk
    rw [rot_eq _ _ (x k) o l ⟨32 * g + l.val % 32, by omega⟩ _ (rotW_eq k.val g k.isLt hg)
      (by show 32 * g + l.val % 32 = _; have := k.isLt; omega)]
    have e : k = ⟨l.val / 32, by omega⟩ := Fin.ext hk.symm
    exact congrArg (fun z => x z (ix3 (0 : Fin 1) o ⟨32 * g + l.val % 32, by omega⟩)) e
  have hl : l.val / 32 = 0 ∨ l.val / 32 = 1 ∨ l.val / 32 = 2 ∨ l.val / 32 = 3 := by omega
  rcases hl with h | h | h | h
  · rw [← hr 0 h, h]; rfl
  · rw [← hr 1 h, h]; rfl
  · rw [← hr 2 h, h]; rfl
  · rw [← hr 3 h, h]; rfl

theorem cuts1_eq (off : Fin 3 → Nat) (inb) (x : Vec Ideal S28x16x256 .f32) (a b c : ℕ) (ho : off = ![a, b, c]) (o : Fin 8) (l : Fin 128)
    (k : Fin 28) (n : Fin 16) (r : Fin 256) (hk : k.val = a) (hn : n.val = b + o.val) (hr : r.val = c + l.val) :
    cuts1 off inb x (ix3 (0 : Fin 1) o l) = x (ix3 k n r) := by
  subst ho
  unfold cuts1
  congr 1
  funext d; apply Fin.ext
  match d with
  | ⟨0, _⟩ => show a + 1 * 0 = k.val; omega
  | ⟨1, _⟩ => show b + 1 * o.val = n.val; omega
  | ⟨2, _⟩ => show c + 1 * l.val = r.val; omega

/-- A pack of four ranks at a lane. -/
theorem pack_at (i : grid0.Coords) (j b : ℕ) (hj : j < 7) (hb : b ≤ 8) (x : Vec Ideal S28x16x256 .f32) (f0 f1 f2 f3 : Fin 3 → Nat) (i0 i1 i2 i3)
    (h0 : f0 = ![4 * j, b, 128 * ((i 1).val / 4)]) (h1 : f1 = ![4 * j + 1, b, 128 * ((i 1).val / 4)])
    (h2 : f2 = ![4 * j + 2, b, 128 * ((i 1).val / 4)]) (h3 : f3 = ![4 * j + 3, b, 128 * ((i 1).val / 4)]) (o : Fin 8) (l : Fin 128) :
    packed (F := Ideal) (shiftW i) (cuts1 f0 i0 x) (cuts1 f1 i1 x) (cuts1 f2 i2 x) (cuts1 f3 i3 x) (ix2 o l)
      = x (ix3 ⟨4 * j + l.val / 32, by omega⟩ ⟨b + o.val, by omega⟩
          ⟨32 * (i 1).val + l.val % 32, by have h : (i 1).val < 8 := (i 1).isLt; omega⟩) := by
  have h8 : (i 1).val < 8 := (i 1).isLt
  rw [shiftW_eq]
  refine (packed_eq ((i 1).val % 4) (Nat.mod_lt _ (by decide)) ![cuts1 f0 i0 x, cuts1 f1 i1 x, cuts1 f2 i2 x, cuts1 f3 i3 x] o l).trans ?_
  have hl : l.val / 32 = 0 ∨ l.val / 32 = 1 ∨ l.val / 32 = 2 ∨ l.val / 32 = 3 := by omega
  rcases hl with h | h | h | h
  · rw [show (⟨l.val / 32, by omega⟩ : Fin 4) = 0 from Fin.ext h]
    exact cuts1_eq f0 i0 x _ _ _ h0 o _ _ _ _ (by show 4 * j + l.val / 32 = _; omega) rfl (by show 32 * (i 1).val + l.val % 32 = _ + (32 * ((i 1).val % 4) + l.val % 32); omega)
  · rw [show (⟨l.val / 32, by omega⟩ : Fin 4) = 1 from Fin.ext h]
    exact cuts1_eq f1 i1 x _ _ _ h1 o _ _ _ _ (by show 4 * j + l.val / 32 = _; omega) rfl (by show 32 * (i 1).val + l.val % 32 = _ + (32 * ((i 1).val % 4) + l.val % 32); omega)
  · rw [show (⟨l.val / 32, by omega⟩ : Fin 4) = 2 from Fin.ext h]
    exact cuts1_eq f2 i2 x _ _ _ h2 o _ _ _ _ (by show 4 * j + l.val / 32 = _; omega) rfl (by show 32 * (i 1).val + l.val % 32 = _ + (32 * ((i 1).val % 4) + l.val % 32); omega)
  · rw [show (⟨l.val / 32, by omega⟩ : Fin 4) = 3 from Fin.ext h]
    exact cuts1_eq f3 i3 x _ _ _ h3 o _ _ _ _ (by show 4 * j + l.val / 32 = _; omega) rfl (by show 32 * (i 1).val + l.val % 32 = _ + (32 * ((i 1).val % 4) + l.val % 32); omega)

theorem sc0_eq (i : grid0.Coords) (x : Vec Ideal S28x16x256 .f32) (j : Fin 7) (o : Fin 8) (l : Fin 128) :
    sc0 i x j (ix2 o l) = x (ix3 ⟨4 * j.val + l.val / 32, by omega⟩ ⟨0 + o.val, by omega⟩
          ⟨32 * (i 1).val + l.val % 32, by have h : (i 1).val < 8 := (i 1).isLt; omega⟩) := by
  match j with
  | ⟨0, _⟩ => exact pack_at i 0 0 (by decide) (by decide) x _ _ _ _ _ _ _ _ (off1_eq i) (off2_eq i) (off3_eq i) (off4_eq i) o l
  | ⟨1, _⟩ => exact pack_at i 1 0 (by decide) (by decide) x _ _ _ _ _ _ _ _ (off5_eq i) (off6_eq i) (off7_eq i) (off8_eq i) o l
  | ⟨2, _⟩ => exact pack_at i 2 0 (by decide) (by decide) x _ _ _ _ _ _ _ _ (off9_eq i) (off10_eq i) (off11_eq i) (off12_eq i) o l
  | ⟨3, _⟩ => exact pack_at i 3 0 (by decide) (by decide) x _ _ _ _ _ _ _ _ (off13_eq i) (off14_eq i) (off15_eq i) (off16_eq i) o l
  | ⟨4, _⟩ => exact pack_at i 4 0 (by decide) (by decide) x _ _ _ _ _ _ _ _ (off17_eq i) (off18_eq i) (off19_eq i) (off20_eq i) o l
  | ⟨5, _⟩ => exact pack_at i 5 0 (by decide) (by decide) x _ _ _ _ _ _ _ _ (off21_eq i) (off22_eq i) (off23_eq i) (off24_eq i) o l
  | ⟨6, _⟩ => exact pack_at i 6 0 (by decide) (by decide) x _ _ _ _ _ _ _ _ (off25_eq i) (off26_eq i) (off27_eq i) (off28_eq i) o l

theorem sc1_eq (i : grid0.Coords) (x : Vec Ideal S28x16x256 .f32) (j : Fin 7) (o : Fin 8) (l : Fin 128) :
    sc1 i x j (ix2 o l) = x (ix3 ⟨4 * j.val + l.val / 32, by omega⟩ ⟨8 + o.val, by omega⟩
          ⟨32 * (i 1).val + l.val % 32, by have h : (i 1).val < 8 := (i 1).isLt; omega⟩) := by
  match j with
  | ⟨0, _⟩ => exact pack_at i 0 8 (by decide) (by decide) x _ _ _ _ _ _ _ _ (off29_eq i) (off30_eq i) (off31_eq i) (off32_eq i) o l
  | ⟨1, _⟩ => exact pack_at i 1 8 (by decide) (by decide) x _ _ _ _ _ _ _ _ (off33_eq i) (off34_eq i) (off35_eq i) (off36_eq i) o l
  | ⟨2, _⟩ => exact pack_at i 2 8 (by decide) (by decide) x _ _ _ _ _ _ _ _ (off37_eq i) (off38_eq i) (off39_eq i) (off40_eq i) o l
  | ⟨3, _⟩ => exact pack_at i 3 8 (by decide) (by decide) x _ _ _ _ _ _ _ _ (off41_eq i) (off42_eq i) (off43_eq i) (off44_eq i) o l
  | ⟨4, _⟩ => exact pack_at i 4 8 (by decide) (by decide) x _ _ _ _ _ _ _ _ (off45_eq i) (off46_eq i) (off47_eq i) (off48_eq i) o l
  | ⟨5, _⟩ => exact pack_at i 5 8 (by decide) (by decide) x _ _ _ _ _ _ _ _ (off49_eq i) (off50_eq i) (off51_eq i) (off52_eq i) o l
  | ⟨6, _⟩ => exact pack_at i 6 8 (by decide) (by decide) x _ _ _ _ _ _ _ _ (off53_eq i) (off54_eq i) (off55_eq i) (off56_eq i) o l

end Cert.Own

end
-- ==== Proof.SumV.lean ====
/- The sum over the ranks that a column group computes, read at an index, over the extended reals. -/
module

public import proofs.«01_k».proof.Proof.ScaleV
public import Idealize.ShloMosaic.Lib.Pointwise
public import Idealize.ShloMosaic.PureOps.Ideal.Laws

@[expose] public section

set_option maxRecDepth 16384

noncomputable section

namespace Cert.Own

open Idealize.ShloMosaic Idealize.ShloMosaic.TcCoe
open Cert.KernelIdeal Cert.KernelIdeal.Gen

theorem eyeM_eq (r : Fin 32) (l : Fin 128) : eyeM (F := Ideal) (ix2 r l) = if l.val % 32 = r.val then (1 : EReal) else 0 := by
  pointwise [eyeM, k0_pay5, k0_pay3, k0_pay4]
  have key : ∀ (r : Fin 32) (l : Fin 128), (IntOp.cmpi CmpIPredicate.eq
        (Scalar.select
          (IntOp.andi
            (IntOp.xori
              (IntOp.cmpi CmpIPredicate.slt
                (IntOp.remsi ArithUnit.vector (BitVec.ofNat 32 l.val)
                  (Scalar.select (Scalar.cmpi CmpIPredicate.eq 32#32 0#32) 1#32 32#32))
                0#32)
              (Scalar.cmpi CmpIPredicate.slt (Scalar.select (Scalar.cmpi CmpIPredicate.eq 32#32 0#32) 1#32 32#32) 0#32))
            (IntOp.cmpi CmpIPredicate.ne
              (IntOp.remsi ArithUnit.vector (BitVec.ofNat 32 l.val)
                (Scalar.select (Scalar.cmpi CmpIPredicate.eq 32#32 0#32) 1#32 32#32))
              0#32))
          (IntOp.addi
            (IntOp.remsi ArithUnit.vector (BitVec.ofNat 32 l.val)
              (Scalar.select (Scalar.cmpi CmpIPredicate.eq 32#32 0#32) 1#32 32#32))
            (Scalar.select (Scalar.cmpi CmpIPredicate.eq 32#32 0#32) 1#32 32#32))
          (IntOp.remsi ArithUnit.vector (BitVec.ofNat 32 l.val)
            (Scalar.select (Scalar.cmpi CmpIPredicate.eq 32#32 0#32) 1#32 32#32)))
        (BitVec.ofNat 32 r.val)) = BitVec.ofBool (decide (l.val % 32 = r.val)) := by
    decide +kernel
  rw [key]
  by_cases h : l.val % 32 = r.val <;> simp [h, Scalar.select]

theorem lhsRow_eq (o : ℕ) (ho : S8x128.Slices ![o, 0] S1x128) (o8 : Fin 8) (ho8 : o8.val = o) (p : Fin 7 → FVec Ideal S8x128 .f32)
    (S : Fin 28 → Fin 32 → EReal) (hp : ∀ (j : Fin 7) (l : Fin 128), p j (ix2 o8 l) = S ⟨4 * j.val + l.val / 32, by omega⟩ ⟨l.val % 32, by omega⟩)
    (r : Fin 32) (q : Fin 896) :
    lhsRow o ho p (ix2 r q) = S ⟨q.val / 32, by omega⟩ ⟨q.val % 32, by omega⟩ * (if q.val % 32 = r.val then (1 : EReal) else 0) := by
  subst ho8
  pointwise [lhsRow, lhsBlk]
  simp only [eyeM_eq]
  have hq := q.isLt
  have fin : ∀ (j : Fin 7) (l : Fin 128) (e : q.val = 128 * j.val + l.val),
      p j (ix2 ⟨o8.val, o8.isLt⟩ l) * (if l.val % 32 = r.val then (1 : EReal) else 0)
        = S ⟨q.val / 32, by omega⟩ ⟨q.val % 32, by omega⟩ * (if q.val % 32 = r.val then (1 : EReal) else 0) := by
    intro j l e
    have h1 : p j (ix2 ⟨o8.val, o8.isLt⟩ l) = S ⟨q.val / 32, by omega⟩ ⟨q.val % 32, by omega⟩ := by
      refine (hp j l).trans ?_
      congr 1
      · apply Fin.ext; show 4 * j.val + l.val / 32 = q.val / 32; omega
      · apply Fin.ext; show l.val % 32 = q.val % 32; omega
    have h2 : l.val % 32 = q.val % 32 := by omega
    rw [h1, h2]
  split_ifs
  all_goals first
    | exact fin 0 _ (by simp; try omega)
    | exact fin 1 _ (by simp; try omega)
    | exact fin 2 _ (by simp; try omega)
    | exact fin 3 _ (by simp; try omega)
    | exact fin 4 _ (by simp; try omega)
    | exact fin 5 _ (by simp; try omega)
    | exact fin 6 _ (by simp; try omega)

/-- The 0-1 mask keeps of each rank's 32 lanes the row's own. -/
theorem sum_eye (S c : Fin 28 → Fin 32 → EReal) (r : Fin 32) :
    ∑ x : Fin 896, (S ⟨x.val / 32, by omega⟩ ⟨x.val % 32, by omega⟩ * (if x.val % 32 = r.val then (1 : EReal) else 0))
        * c ⟨x.val / 32, by omega⟩ ⟨x.val % 32, by omega⟩
      = ∑ k : Fin 28, S k r * c k r := by
  have e : ∑ x : Fin 896, (S ⟨x.val / 32, by omega⟩ ⟨x.val % 32, by omega⟩ * (if x.val % 32 = r.val then (1 : EReal) else 0))
        * c ⟨x.val / 32, by omega⟩ ⟨x.val % 32, by omega⟩
      = ∑ z : Fin 28 × Fin 32, (S z.1 z.2 * (if z.2.val = r.val then (1 : EReal) else 0)) * c z.1 z.2 :=
    (Fintype.sum_equiv (finProdFinEquiv (m := 28) (n := 32)).symm _ _ fun x => rfl)
  rw [e, Fintype.sum_prod_type]
  refine Finset.sum_congr rfl fun k _ => ?_
  rw [Finset.sum_eq_single r]
  · simp
  · intro b _ hb
    have : b.val ≠ r.val := fun h => hb (Fin.ext h)
    simp [this]
  · intro h; exact absurd (Finset.mem_univ r) h

theorem gs_lo (o o' : ℕ) (ho : S8x128.Slices ![o, 0] S1x128) (ho' : S8x128.Slices ![o', 0] S1x128) (p : Fin 7 → FVec Ideal S8x128 .f32)
    (codes : Vec Ideal S28x32x256 .fp8e5m2) (o8 : Fin 8) (ho8 : o8.val = o) (S : Fin 28 → Fin 32 → EReal)
    (hp : ∀ (j : Fin 7) (l : Fin 128), p j (ix2 o8 l) = S ⟨4 * j.val + l.val / 32, by omega⟩ ⟨l.val % 32, by omega⟩) (r : Fin 32) (l : Fin 128) :
    gsum0 (accF o o' ho ho' p codes) (ix2 r l) = ∑ k : Fin 28, S k r * codes (ix3 k r ⟨l.val, by omega⟩) := by
  rw [← sum_eye S (fun k r => codes (ix3 k r ⟨l.val, by omega⟩)) r]
  pointwise [gsum0, accF]
  refine Finset.sum_congr rfl fun x _ => ?_
  refine congrArg₂ (· * ·) ?_ rfl
  exact lhsRow_eq o ho o8 ho8 p S hp r x

theorem gs_hi (o o' : ℕ) (ho : S8x128.Slices ![o, 0] S1x128) (ho' : S8x128.Slices ![o', 0] S1x128) (p : Fin 7 → FVec Ideal S8x128 .f32)
    (codes : Vec Ideal S28x32x256 .fp8e5m2) (o8 : Fin 8) (ho8 : o8.val = o') (S : Fin 28 → Fin 32 → EReal)
    (hp : ∀ (j : Fin 7) (l : Fin 128), p j (ix2 o8 l) = S ⟨4 * j.val + l.val / 32, by omega⟩ ⟨l.val % 32, by omega⟩) (r : Fin 32) (l : Fin 128) :
    gsum1 (accF o o' ho ho' p codes) (ix2 r l) = ∑ k : Fin 28, S k r * codes (ix3 k r ⟨128 + l.val, by omega⟩) := by
  rw [← sum_eye S (fun k r => codes (ix3 k r ⟨128 + l.val, by omega⟩)) r]
  pointwise [gsum1, accF]
  refine Finset.sum_congr rfl fun x _ => ?_
  refine congrArg₂ (· * ·) ?_ rfl
  exact lhsRow_eq o' ho' o8 ho8 p S hp r x

theorem cutc1_eq (o : ℕ) (inb) (x : Vec Ideal S28x32x2048 .fp8e5m2) (k : Fin 28) (r : Fin 32) (q : Fin 256) (q' : Fin 2048) (h : q'.val = o + q.val) :
    cutc1 o inb x (ix3 k r q) = x (ix3 k r q') := by
  unfold cutc1
  congr 1
  funext d; apply Fin.ext
  match d with
  | ⟨0, _⟩ => show 0 + 1 * k.val = k.val; omega
  | ⟨1, _⟩ => show 0 + 1 * r.val = r.val; omega
  | ⟨2, _⟩ => show o + 1 * q.val = q'.val; omega

theorem cut1_eq {e : EltTy} (o : ℕ) (inb) (x : Vec Ideal S32x2048 e) (r : Fin 32) (l : Fin 128) (q' : Fin 2048) (h : q'.val = o + l.val) :
    cut1 o inb x (ix2 r l) = x (ix2 r q') := by
  unfold cut1
  congr 1
  funext d; apply Fin.ext
  match d with
  | ⟨0, _⟩ => show 0 + 1 * r.val = r.val; omega
  | ⟨1, _⟩ => show o + 1 * l.val = q'.val; omega

theorem blk_eq {e : EltTy} (x : Vec Ideal S32x2048 e) (n : Fin 16) (r : Fin 32) (l : Fin 128) :
    blk x n (ix2 r l) = x (ix2 r ⟨128 * n.val + l.val, by omega⟩) := by
  obtain ⟨n, hn⟩ := n
  interval_cases n
  · exact cut1_eq 0 _ x r l _ rfl
  · exact cut1_eq 128 _ x r l _ rfl
  · exact cut1_eq 256 _ x r l _ rfl
  · exact cut1_eq 384 _ x r l _ rfl
  · exact cut1_eq 512 _ x r l _ rfl
  · exact cut1_eq 640 _ x r l _ rfl
  · exact cut1_eq 768 _ x r l _ rfl
  · exact cut1_eq 896 _ x r l _ rfl
  · exact cut1_eq 1024 _ x r l _ rfl
  · exact cut1_eq 1152 _ x r l _ rfl
  · exact cut1_eq 1280 _ x r l _ rfl
  · exact cut1_eq 1408 _ x r l _ rfl
  · exact cut1_eq 1536 _ x r l _ rfl
  · exact cut1_eq 1664 _ x r l _ rfl
  · exact cut1_eq 1792 _ x r l _ rfl
  · exact cut1_eq 1920 _ x r l _ rfl

/-- The sum over the ranks at a row and a lane of column group `n`. -/
theorem gsT_eq (i : grid0.Coords) (x0 : Vec Ideal S28x32x2048 .fp8e5m2) (x1 : Vec Ideal S28x16x256 .f32) (n : Fin 16) (r : Fin 32) (l : Fin 128) :
    gsT i x0 x1 n (ix2 r l) = ∑ k : Fin 28, x1 (ix3 k n ⟨32 * (i 1).val + r.val, by have h : (i 1).val < 8 := (i 1).isLt; omega⟩)
      * x0 (ix3 k r ⟨128 * n.val + l.val, by omega⟩) := by
  have h8 : (i 1).val < 8 := (i 1).isLt
  obtain ⟨n, hn⟩ := n
  interval_cases n
  · refine (gs_lo 0 1 slices_S8x128_o0_0_S1x128 slices_S8x128_o1_0_S1x128 (sc0 i x1) (blkc x0 0) 0 rfl
      (fun k r' => x1 (ix3 k 0 ⟨32 * (i 1).val + r'.val, by omega⟩)) (fun j l' => (sc0_eq i x1 j 0 l').trans rfl) r l).trans ?_
    exact Finset.sum_congr rfl fun k _ => congrArg (_ * ·) (cutc1_eq 0 _ x0 k r _ _ (by show 0 + l.val = 0 + l.val; omega))
  · refine (gs_hi 0 1 slices_S8x128_o0_0_S1x128 slices_S8x128_o1_0_S1x128 (sc0 i x1) (blkc x0 0) 1 rfl
      (fun k r' => x1 (ix3 k 1 ⟨32 * (i 1).val + r'.val, by omega⟩)) (fun j l' => (sc0_eq i x1 j 1 l').trans rfl) r l).trans ?_
    exact Finset.sum_congr rfl fun k _ => congrArg (_ * ·) (cutc1_eq 0 _ x0 k r _ _ (by show 128 + l.val = 0 + (128 + l.val); omega))
  · refine (gs_lo 2 3 slices_S8x128_o2_0_S1x128 slices_S8x128_o3_0_S1x128 (sc0 i x1) (blkc x0 1) 2 rfl
      (fun k r' => x1 (ix3 k 2 ⟨32 * (i 1).val + r'.val, by omega⟩)) (fun j l' => (sc0_eq i x1 j 2 l').trans rfl) r l).trans ?_
    exact Finset.sum_congr rfl fun k _ => congrArg (_ * ·) (cutc1_eq 256 _ x0 k r _ _ (by show 256 + l.val = 256 + l.val; omega))
  · refine (gs_hi 2 3 slices_S8x128_o2_0_S1x128 slices_S8x128_o3_0_S1x128 (sc0 i x1) (blkc x0 1) 3 rfl
      (fun k r' => x1 (ix3 k 3 ⟨32 * (i 1).val + r'.val, by omega⟩)) (fun j l' => (sc0_eq i x1 j 3 l').trans rfl) r l).trans ?_
    exact Finset.sum_congr rfl fun k _ => congrArg (_ * ·) (cutc1_eq 256 _ x0 k r _ _ (by show 384 + l.val = 256 + (128 + l.val); omega))
  · refine (gs_lo 4 5 slices_S8x128_o4_0_S1x128 slices_S8x128_o5_0_S1x128 (sc0 i x1) (blkc x0 2) 4 rfl
      (fun k r' => x1 (ix3 k 4 ⟨32 * (i 1).val + r'.val, by omega⟩)) (fun j l' => (sc0_eq i x1 j 4 l').trans rfl) r l).trans ?_
    exact Finset.sum_congr rfl fun k _ => congrArg (_ * ·) (cutc1_eq 512 _ x0 k r _ _ (by show 512 + l.val = 512 + l.val; omega))
  · refine (gs_hi 4 5 slices_S8x128_o4_0_S1x128 slices_S8x128_o5_0_S1x128 (sc0 i x1) (blkc x0 2) 5 rfl
      (fun k r' => x1 (ix3 k 5 ⟨32 * (i 1).val + r'.val, by omega⟩)) (fun j l' => (sc0_eq i x1 j 5 l').trans rfl) r l).trans ?_
    exact Finset.sum_congr rfl fun k _ => congrArg (_ * ·) (cutc1_eq 512 _ x0 k r _ _ (by show 640 + l.val = 512 + (128 + l.val); omega))
  · refine (gs_lo 6 7 slices_S8x128_o6_0_S1x128 slices_S8x128_o7_0_S1x128 (sc0 i x1) (blkc x0 3) 6 rfl
      (fun k r' => x1 (ix3 k 6 ⟨32 * (i 1).val + r'.val, by omega⟩)) (fun j l' => (sc0_eq i x1 j 6 l').trans rfl) r l).trans ?_
    exact Finset.sum_congr rfl fun k _ => congrArg (_ * ·) (cutc1_eq 768 _ x0 k r _ _ (by show 768 + l.val = 768 + l.val; omega))
  · refine (gs_hi 6 7 slices_S8x128_o6_0_S1x128 slices_S8x128_o7_0_S1x128 (sc0 i x1) (blkc x0 3) 7 rfl
      (fun k r' => x1 (ix3 k 7 ⟨32 * (i 1).val + r'.val, by omega⟩)) (fun j l' => (sc0_eq i x1 j 7 l').trans rfl) r l).trans ?_
    exact Finset.sum_congr rfl fun k _ => congrArg (_ * ·) (cutc1_eq 768 _ x0 k r _ _ (by show 896 + l.val = 768 + (128 + l.val); omega))
  · refine (gs_lo 0 1 slices_S8x128_o0_0_S1x128 slices_S8x128_o1_0_S1x128 (sc1 i x1) (blkc x0 4) 0 rfl
      (fun k r' => x1 (ix3 k 8 ⟨32 * (i 1).val + r'.val, by omega⟩)) (fun j l' => (sc1_eq i x1 j 0 l').trans rfl) r l).trans ?_
    exact Finset.sum_congr rfl fun k _ => congrArg (_ * ·) (cutc1_eq 1024 _ x0 k r _ _ (by show 1024 + l.val = 1024 + l.val; omega))
  · refine (gs_hi 0 1 slices_S8x128_o0_0_S1x128 slices_S8x128_o1_0_S1x128 (sc1 i x1) (blkc x0 4) 1 rfl
      (fun k r' => x1 (ix3 k 9 ⟨32 * (i 1).val + r'.val, by omega⟩)) (fun j l' => (sc1_eq i x1 j 1 l').trans rfl) r l).trans ?_
    exact Finset.sum_congr rfl fun k _ => congrArg (_ * ·) (cutc1_eq 1024 _ x0 k r _ _ (by show 1152 + l.val = 1024 + (128 + l.val); omega))
  · refine (gs_lo 2 3 slices_S8x128_o2_0_S1x128 slices_S8x128_o3_0_S1x128 (sc1 i x1) (blkc x0 5) 2 rfl
      (fun k r' => x1 (ix3 k 10 ⟨32 * (i 1).val + r'.val, by omega⟩)) (fun j l' => (sc1_eq i x1 j 2 l').trans rfl) r l).trans ?_
    exact Finset.sum_congr rfl fun k _ => congrArg (_ * ·) (cutc1_eq 1280 _ x0 k r _ _ (by show 1280 + l.val = 1280 + l.val; omega))
  · refine (gs_hi 2 3 slices_S8x128_o2_0_S1x128 slices_S8x128_o3_0_S1x128 (sc1 i x1) (blkc x0 5) 3 rfl
      (fun k r' => x1 (ix3 k 11 ⟨32 * (i 1).val + r'.val, by omega⟩)) (fun j l' => (sc1_eq i x1 j 3 l').trans rfl) r l).trans ?_
    exact Finset.sum_congr rfl fun k _ => congrArg (_ * ·) (cutc1_eq 1280 _ x0 k r _ _ (by show 1408 + l.val = 1280 + (128 + l.val); omega))
  · refine (gs_lo 4 5 slices_S8x128_o4_0_S1x128 slices_S8x128_o5_0_S1x128 (sc1 i x1) (blkc x0 6) 4 rfl
      (fun k r' => x1 (ix3 k 12 ⟨32 * (i 1).val + r'.val, by omega⟩)) (fun j l' => (sc1_eq i x1 j 4 l').trans rfl) r l).trans ?_
    exact Finset.sum_congr rfl fun k _ => congrArg (_ * ·) (cutc1_eq 1536 _ x0 k r _ _ (by show 1536 + l.val = 1536 + l.val; omega))
  · refine (gs_hi 4 5 slices_S8x128_o4_0_S1x128 slices_S8x128_o5_0_S1x128 (sc1 i x1) (blkc x0 6) 5 rfl
      (fun k r' => x1 (ix3 k 13 ⟨32 * (i 1).val + r'.val, by omega⟩)) (fun j l' => (sc1_eq i x1 j 5 l').trans rfl) r l).trans ?_
    exact Finset.sum_congr rfl fun k _ => congrArg (_ * ·) (cutc1_eq 1536 _ x0 k r _ _ (by show 1664 + l.val = 1536 + (128 + l.val); omega))
  · refine (gs_lo 6 7 slices_S8x128_o6_0_S1x128 slices_S8x128_o7_0_S1x128 (sc1 i x1) (blkc x0 7) 6 rfl
      (fun k r' => x1 (ix3 k 14 ⟨32 * (i 1).val + r'.val, by omega⟩)) (fun j l' => (sc1_eq i x1 j 6 l').trans rfl) r l).trans ?_
    exact Finset.sum_congr rfl fun k _ => congrArg (_ * ·) (cutc1_eq 1792 _ x0 k r _ _ (by show 1792 + l.val = 1792 + l.val; omega))
  · refine (gs_hi 6 7 slices_S8x128_o6_0_S1x128 slices_S8x128_o7_0_S1x128 (sc1 i x1) (blkc x0 7) 7 rfl
      (fun k r' => x1 (ix3 k 15 ⟨32 * (i 1).val + r'.val, by omega⟩)) (fun j l' => (sc1_eq i x1 j 7 l').trans rfl) r l).trans ?_
    exact Finset.sum_congr rfl fun k _ => congrArg (_ * ·) (cutc1_eq 1792 _ x0 k r _ _ (by show 1920 + l.val = 1792 + (128 + l.val); omega))

end Cert.Own

end
-- ==== Proof.Quant.lean ====
/- The power-of-two scale of a block: the word search of the exponent field against the logarithm, over the extended reals. -/
module

public import Idealize.ShloMosaic.PureOps.Ideal.Laws
public import Mathlib.Analysis.SpecialFunctions.Pow.Real

@[expose] public section

noncomputable section

namespace Cert.Own

open Idealize.ShloMosaic

/-- The word with exponent field `K` and nothing else. -/
def wd (K : ℕ) : BitVec 32 := BitVec.ofNat 32 (K * 8388608)

/-- The number this word denotes. -/
def P (K : ℕ) : EReal := Ideal.ofBits .f32 (wd K)

theorem P_zero : P 0 = 0 := Ideal.ofBits_zero_f32

theorem ex_wd : ∀ K : Fin 256, ((wd K.val).extractLsb' 23 8).toNat = K.val := by unfold wd; decide +kernel
theorem fr_wd : ∀ K : Fin 256, ((wd K.val).extractLsb' 0 23).toNat = 0 := by unfold wd; decide +kernel
theorem sg_wd : ∀ K : Fin 256, ((wd K.val).extractLsb' 31 1 == 1#1) = false := by unfold wd; decide +kernel

theorem P_mid (K : ℕ) (h1 : 1 ≤ K) (h2 : K ≤ 254) : P K = (((2 : ℝ) ^ ((K : ℤ) - 127) : ℝ) : EReal) := by
  have e := ex_wd ⟨K, by omega⟩
  have f := fr_wd ⟨K, by omega⟩
  have s := sg_wd ⟨K, by omega⟩
  dsimp only at e f s
  show Ideal.ieee 8 23 (wd K) = _
  unfold Ideal.ieee
  simp only [show (8 + 23) = 31 from rfl, e, f, s]
  rw [if_neg (by omega), if_neg (by omega)]
  congr 1
  have h : ((K : ℤ) - 127) = ((K : ℤ) - (2 ^ (8 - 1) - 1) - (23 : ℕ)) + 23 := by norm_num
  rw [h, zpow_add₀ (by norm_num : (2 : ℝ) ≠ 0)]
  norm_num
  ring

theorem wd_add (K b : ℕ) : wd K + wd b = wd (K + b) := by
  unfold wd; rw [add_mul, BitVec.ofNat_add]

theorem wd_sub : ∀ K : Fin 253, 2130706432#32 - wd (K.val + 1) = wd (253 - K.val) := by unfold wd; decide +kernel

theorem wd_ne : ∀ K : Fin 256, K.val ≠ 0 → wd K.val ≠ 0#32 := by unfold wd; decide +kernel

/-- One step of the search on one word. -/
def stepS (y : EReal) (b e : BitVec 32) : BitVec 32 := Scalar.select (Ideal.cmp .olt y (Ideal.ofBits .f32 (e + b))) e (e + b)

/-- The same step on the exponent field. -/
def stepN (y : EReal) (b K : ℕ) : ℕ := if y < P (K + b) then K else K + b

theorem stepS_wd (y : EReal) (b K : ℕ) : stepS y (wd b) (wd K) = wd (stepN y b K) := by
  unfold stepS stepN
  rw [wd_add]
  show Scalar.select (BitVec.ofBool (decide (y < P (K + b)))) _ _ = _
  by_cases h : y < P (K + b) <;> simp [h, Scalar.select]

/-- What the search knows while it still has `w` fields to choose from. -/
def Inv (y : EReal) (w K : ℕ) : Prop := P K ≤ y ∧ K + w ≤ 256 ∧ (K + w ≤ 255 → y < P (K + w))

theorem Inv_step (y : EReal) (b w K : ℕ) (hw : w = b + b) (h : Inv y w K) : Inv y b (stepN y b K) := by
  subst hw
  obtain ⟨h1, h2, h3⟩ := h
  unfold stepN
  by_cases hc : y < P (K + b)
  · rw [if_pos hc]; exact ⟨h1, by omega, fun _ => hc⟩
  · rw [if_neg hc]; exact ⟨not_lt.mp hc, by omega, fun h => by have := h3 (by omega); rwa [← add_assoc] at this⟩

/-- The word of the scale of a block whose maximum over 448 is `y`. -/
def scaleS (y : EReal) : BitVec 32 :=
  let e := stepS y 8388608#32 (stepS y 16777216#32 (stepS y 33554432#32 (stepS y 67108864#32 (stepS y 134217728#32
    (stepS y 268435456#32 (stepS y 536870912#32 (stepS y 1073741824#32 0#32)))))))
  Scalar.select (IntOp.cmpi .eq e 0#32) 1065353216#32 (e + 8388608#32)

theorem scaleS_wd (y : EReal) (hy : 0 ≤ y) : ∃ K, Inv y 1 K ∧ scaleS y = if K = 0 then wd 127 else wd (K + 1) := by
  refine ⟨stepN y 1 (stepN y 2 (stepN y 4 (stepN y 8 (stepN y 16 (stepN y 32 (stepN y 64 (stepN y 128 0))))))), ?_, ?_⟩
  · refine Inv_step y 1 2 _ rfl (Inv_step y 2 4 _ rfl (Inv_step y 4 8 _ rfl (Inv_step y 8 16 _ rfl (Inv_step y 16 32 _ rfl
      (Inv_step y 32 64 _ rfl (Inv_step y 64 128 _ rfl (Inv_step y 128 256 _ rfl ⟨?_, by norm_num, by norm_num⟩)))))))
    rw [P_zero]; exact hy
  · have hK : Inv y 1 (stepN y 1 (stepN y 2 (stepN y 4 (stepN y 8 (stepN y 16 (stepN y 32 (stepN y 64 (stepN y 128 0)))))))) := by
      refine Inv_step y 1 2 _ rfl (Inv_step y 2 4 _ rfl (Inv_step y 4 8 _ rfl (Inv_step y 8 16 _ rfl (Inv_step y 16 32 _ rfl
        (Inv_step y 32 64 _ rfl (Inv_step y 64 128 _ rfl (Inv_step y 128 256 _ rfl ⟨?_, by norm_num, by norm_num⟩)))))))
      rw [P_zero]; exact hy
    unfold scaleS
    rw [show (0#32 : BitVec 32) = wd 0 from rfl, show (1073741824#32 : BitVec 32) = wd 128 from rfl,
      show (536870912#32 : BitVec 32) = wd 64 from rfl, show (268435456#32 : BitVec 32) = wd 32 from rfl,
      show (134217728#32 : BitVec 32) = wd 16 from rfl, show (67108864#32 : BitVec 32) = wd 8 from rfl,
      show (33554432#32 : BitVec 32) = wd 4 from rfl, show (16777216#32 : BitVec 32) = wd 2 from rfl,
      show (8388608#32 : BitVec 32) = wd 1 from rfl, show (1065353216#32 : BitVec 32) = wd 127 from rfl]
    simp only [stepS_wd]
    generalize stepN y 1 (stepN y 2 (stepN y 4 (stepN y 8 (stepN y 16 (stepN y 32 (stepN y 64 (stepN y 128 0))))))) = K at hK ⊢
    rw [wd_add]
    by_cases h0 : K = 0
    · subst h0; simp [IntOp.cmpi, Scalar.select]
    · have hn : wd K ≠ wd 0 := wd_ne ⟨K, by have := hK.2.1; omega⟩ h0
      rw [if_neg h0]
      have hb : (wd K == wd 0) = false := by simpa using hn
      simp [IntOp.cmpi, Scalar.select, hb]

/-- The exponent of the scale, by the logarithm. -/
def refE (y : EReal) : EReal :=
  Scalar.select (Ideal.cmp .olt y (Ideal.ofBits .f32 0x00800000#32)) (Ideal.ofBits .f32 0x00000000#32)
    (Ideal.liftRound Int.floor (Ideal.div (Ideal.log y) ((Real.log 2 : ℝ) : EReal)) + Ideal.ofBits .f32 0x3F800000#32)

theorem one_bits : Ideal.ofBits .f32 0x3F800000#32 = ((1 : ℝ) : EReal) := by
  have := P_mid 127 (by norm_num) (by norm_num)
  rw [show (((127 : ℕ) : ℤ) - 127) = 0 by norm_num, zpow_zero] at this
  exact this

theorem exp2_int (n : ℤ) : Ideal.exp2 (((n : ℝ) : ℝ) : EReal) = (((2 : ℝ) ^ n : ℝ) : EReal) := by
  show ((Real.rpow 2 (n : ℝ) : ℝ) : EReal) = _
  congr 1
  exact Real.rpow_intCast 2 n

theorem floor_log (r : ℝ) (n : ℤ) (h1 : (2 : ℝ) ^ n ≤ r) (h2 : r < (2 : ℝ) ^ (n + 1)) : ⌊Real.log r * (Real.log 2)⁻¹⌋ = n := by
  have hp : (0 : ℝ) < 2 ^ n := zpow_pos (by norm_num) _
  have hr : 0 < r := lt_of_lt_of_le hp h1
  have l2 : 0 < Real.log 2 := Real.log_pos (by norm_num)
  rw [Int.floor_eq_iff, ← div_eq_mul_inv]
  constructor
  · rw [le_div_iff₀ l2, ← Real.log_zpow]
    exact Real.log_le_log hp h1
  · rw [div_lt_iff₀ l2]
    have := Real.log_lt_log hr h2
    rw [Real.log_zpow] at this
    push_cast at this
    exact this

/-- Below `2^126` the searched scale and its reciprocal are the powers of two that the logarithm gives. -/
theorem scale_eq (r : ℝ) (h0 : 0 ≤ r) (hr : r < (2 : ℝ) ^ (126 : ℤ)) :
    Ideal.ofBits .f32 (scaleS (r : EReal)) = Ideal.exp2 (refE (r : EReal))
    ∧ Ideal.ofBits .f32 (2130706432#32 - scaleS (r : EReal)) = Ideal.exp2 (Ideal.ofBits .f32 0x00000000#32 - refE (r : EReal)) := by
  obtain ⟨K, ⟨hK1, hK2, hK3⟩, hs⟩ := scaleS_wd (r : EReal) (by exact_mod_cast h0)
  have hsel : Ideal.cmp .olt (r : EReal) (Ideal.ofBits .f32 0x00800000#32) = BitVec.ofBool (decide ((r : EReal) < P 1)) := rfl
  rw [hs]
  unfold refE
  rw [hsel, Ideal.ofBits_zero_f32, one_bits]
  by_cases hz : K = 0
  · subst hz
    have h1 : (r : EReal) < P 1 := hK3 (by norm_num)
    have e0 : Ideal.exp2 0 = 1 := by
      have := exp2_int 0
      simpa using this
    have sub : 2130706432#32 - wd 127 = wd 127 := by unfold wd; decide
    rw [if_pos rfl, sub]
    have p127 : Ideal.ofBits .f32 (wd 127) = 1 := one_bits
    rw [p127]
    simp [h1, Scalar.select, e0]
  · have hK256 : K ≤ 252 := by
      by_contra hc
      have hP : P K ≤ (r : EReal) := hK1
      have : ∃ s : ℝ, (2 : ℝ) ^ (126 : ℤ) ≤ s ∧ (s : EReal) ≤ P K := by
        by_cases h255 : K = 255
        · subst h255
          refine ⟨(2 : ℝ) ^ (126 : ℤ), le_rfl, ?_⟩
          have : P 255 = ⊤ := by
            have e := ex_wd ⟨255, by omega⟩
            have f := fr_wd ⟨255, by omega⟩
            have s := sg_wd ⟨255, by omega⟩
            dsimp only at e f s
            show Ideal.ieee 8 23 (wd 255) = _
            unfold Ideal.ieee
            simp only [show (8 + 23) = 31 from rfl, e, f, s]
            norm_num
          rw [this]; exact le_top
        · refine ⟨(2 : ℝ) ^ ((K : ℤ) - 127), ?_, (P_mid K (by omega) (by omega)).ge⟩
          exact zpow_le_zpow_right₀ (by norm_num) (by omega)
      obtain ⟨s, hs1, hs2⟩ := this
      have : s ≤ r := by exact_mod_cast hs2.trans hP
      linarith
    have p1 := P_mid K (by omega) (by omega)
    have p2 := P_mid (K + 1) (by omega) (by omega)
    have p3 := P_mid (253 - K) (by omega) (by omega)
    have pm := P_mid 1 (by norm_num) (by norm_num)
    have hlo : (2 : ℝ) ^ ((K : ℤ) - 127) ≤ r := by rw [p1] at hK1; exact_mod_cast hK1
    have hhi : r < (2 : ℝ) ^ (((K : ℤ) - 127) + 1) := by
      have := hK3 (by omega)
      rw [p2] at this
      have h : r < (2 : ℝ) ^ (((K + 1 : ℕ) : ℤ) - 127) := by exact_mod_cast this
      convert h using 2
      push_cast; ring
    have hn : ¬ ((r : EReal) < P 1) := by
      rw [pm, not_lt]
      have : (2 : ℝ) ^ (((1 : ℕ) : ℤ) - 127) ≤ r := le_trans (zpow_le_zpow_right₀ (by norm_num) (by omega)) hlo
      exact_mod_cast this
    have hrpos : 0 < r := lt_of_lt_of_le (zpow_pos (by norm_num) _) hlo
    have hlog : Ideal.log (r : EReal) = ((Real.log r : ℝ) : EReal) := by
      show (if r ≤ 0 then ⊥ else ((Real.log r : ℝ) : EReal)) = _
      rw [if_neg (not_le.mpr hrpos)]
    have l2 : (Real.log 2) ≠ 0 := (Real.log_pos (by norm_num)).ne'
    have hdiv : Ideal.div (Ideal.log (r : EReal)) ((Real.log 2 : ℝ) : EReal) = ((Real.log r * (Real.log 2)⁻¹ : ℝ) : EReal) := by
      rw [hlog]
      unfold Ideal.div
      rw [if_neg (by exact_mod_cast l2), EReal.coe_mul, EReal.coe_inv]
    have hfl : Ideal.liftRound Int.floor ((Real.log r * (Real.log 2)⁻¹ : ℝ) : EReal) = ((((K : ℤ) - 127 : ℤ) : ℝ) : EReal) := by
      show (((⌊Real.log r * (Real.log 2)⁻¹⌋ : ℤ) : ℝ) : EReal) = _
      rw [floor_log r ((K : ℤ) - 127) hlo hhi]
    have hadd : ((((K : ℤ) - 127 : ℤ) : ℝ) : EReal) + ((1 : ℝ) : EReal) = ((((K : ℤ) - 126 : ℤ) : ℝ) : EReal) := by
      rw [← EReal.coe_add]; congr 1; push_cast; ring
    have hE : Scalar.select (BitVec.ofBool (decide ((r : EReal) < P 1))) (0 : EReal)
        (Ideal.liftRound Int.floor (Ideal.div (Ideal.log (r : EReal)) ((Real.log 2 : ℝ) : EReal)) + ((1 : ℝ) : EReal))
        = ((((K : ℤ) - 126 : ℤ) : ℝ) : EReal) := by
      rw [hdiv, hfl, hadd]
      simp [hn, Scalar.select]
    have hneg : (0 : EReal) - ((((K : ℤ) - 126 : ℤ) : ℝ) : EReal) = (((126 - (K : ℤ) : ℤ) : ℝ) : EReal) := by
      rw [← EReal.coe_zero, ← EReal.coe_sub]; congr 1; push_cast; ring
    rw [if_neg hz, hE, hneg, exp2_int, exp2_int, wd_sub ⟨K, by omega⟩]
    constructor
    · show P (K + 1) = _
      rw [p2]; congr 2; push_cast; ring
    · show P (253 - K) = _
      rw [p3]; congr 2; omega

/-- The largest magnitude of a block. -/
def amx (f : Fin 128 → EReal) : EReal := Finset.univ.fold max (Ideal.ofBits .f32 0xFF800000#32) (fun x => max (f x) (-f x))

abbrev c448 : EReal := Ideal.ofBits .f32 0x3B124925#32

theorem c448_val : c448 = ((9586981 / 2 ^ 32 : ℝ) : EReal) := by
  simp [c448, Ideal.ofBits, Ideal.ieee]
  rw [← EReal.coe_mul]; norm_num

theorem ninf_bits : Ideal.ofBits .f32 0xFF800000#32 = ⊥ := by simp [Ideal.ofBits, Ideal.ieee]

theorem amx_bound (f : Fin 128 → EReal) (h : ∀ x, ∃ q : ℝ, f x = (q : EReal) ∧ |q| ≤ 2 ^ 103) :
    ∃ r : ℝ, amx f * c448 = (r : EReal) ∧ 0 ≤ r ∧ r < (2 : ℝ) ^ (126 : ℤ) := by
  have hle : amx f ≤ ((2 ^ 103 : ℝ) : EReal) := by
    unfold amx
    rw [Finset.fold_max_le]
    refine ⟨by rw [ninf_bits]; exact bot_le, fun x _ => ?_⟩
    obtain ⟨q, hq, hb⟩ := h x
    rw [hq, max_le_iff, ← EReal.coe_neg]
    have := abs_le.mp hb
    exact ⟨by exact_mod_cast this.2, by exact_mod_cast (by linarith [this.1] : -q ≤ 2 ^ 103)⟩
  have hge : (0 : EReal) ≤ amx f := by
    unfold amx
    rw [Finset.le_fold_max]
    refine Or.inr ⟨0, Finset.mem_univ _, ?_⟩
    obtain ⟨q, hq, hb⟩ := h 0
    rw [hq, ← EReal.coe_neg, le_max_iff]
    rcases le_total 0 q with hq0 | hq0
    · exact Or.inl (by exact_mod_cast hq0)
    · exact Or.inr (by exact_mod_cast (by linarith : 0 ≤ -q))
  induction hz : amx f using EReal.rec with
  | bot => rw [hz] at hge; simp at hge
  | top => rw [hz] at hle; exact absurd hle (not_le.mpr (EReal.coe_lt_top _))
  | coe a =>
    rw [hz] at hge hle
    have h0 : 0 ≤ a := by exact_mod_cast hge
    have h1 : a ≤ 2 ^ 103 := by exact_mod_cast hle
    refine ⟨a * (9586981 / 2 ^ 32), by rw [c448_val, EReal.coe_mul], by positivity, ?_⟩
    rw [show ((2 : ℝ) ^ (126 : ℤ)) = 2 ^ 126 from zpow_natCast 2 126]
    calc a * (9586981 / 2 ^ 32) ≤ 2 ^ 103 * (9586981 / 2 ^ 32) := mul_le_mul_of_nonneg_right h1 (by norm_num)
      _ < 2 ^ 126 := by norm_num

/-- The scale of a block of bounded numbers and its reciprocal: the searched words against the logarithm. -/
theorem quant_eq (f : Fin 128 → EReal) (h : ∀ x, ∃ q : ℝ, f x = (q : EReal) ∧ |q| ≤ 2 ^ 103) :
    Ideal.ofBits .f32 (scaleS (amx f * c448)) = Ideal.exp2 (refE (amx f * c448))
    ∧ Ideal.ofBits .f32 (2130706432#32 - scaleS (amx f * c448)) = Ideal.exp2 (Ideal.ofBits .f32 0x00000000#32 - refE (amx f * c448)) := by
  obtain ⟨r, hr, h0, h1⟩ := amx_bound f h
  rw [hr]
  exact scale_eq r h0 h1

end Cert.Own

end
-- ==== Proof.Scal.lean ====
/- One element of the step in the kernel's form and in the reference's, over the extended reals: they agree, and stay bounded. -/
module

public import Idealize.ShloMosaic.PureOps.Ideal.Laws
public import Mathlib.Analysis.SpecialFunctions.Pow.Real

@[expose] public section

noncomputable section

namespace Cert.Own

open Idealize.ShloMosaic

abbrev c90 : EReal := Ideal.ofBits .f32 0x3F666666#32
abbrev c95 : EReal := Ideal.ofBits .f32 0x3F733333#32
abbrev c05 : EReal := Ideal.ofBits .f32 0x3D4CCCCD#32
abbrev ceps : EReal := Ideal.ofBits .f32 0x322BCC77#32
abbrev tenth : EReal := ((1 / 10 : ℝ) : EReal)
/-- The two bias corrections at step 20. -/
abbrev b1 : ℝ := 87842334540943071199 / 100000000000000000000
abbrev b2 : ℝ := 67267626542454041806644399 / 104857600000000000000000000

/-- The kernel's step of one element, from the sum `s` over the ranks: the new moments, the update. -/
def kG (s : EReal) : EReal := s * ((1 / 28 : ℝ) : EReal)
def kM (g m : EReal) : EReal := c90 * m + tenth * g
def kV (g v : EReal) : EReal := c95 * v + c05 * (g * g)
def kU (m' v' w : EReal) : EReal :=
  Ideal.div (m' * ((1000000000000000000 / 87842334540943071199 : ℝ) : EReal))
    (Ideal.sqrt (v' * ((104857600000000000000000000 / 67267626542454041806644399 : ℝ) : EReal)) + ceps) + ((1 / 1000 : ℝ) : EReal) * w

/-- The reference's mean gradient and update. -/
def rG (s : EReal) : EReal := Ideal.div s (Ideal.ofBits .f32 0x41E00000#32)
def rR (m' v' : EReal) : EReal := Ideal.div (Ideal.div m' (b1 : EReal)) (Ideal.sqrt (Ideal.div v' (b2 : EReal)) + ceps)
def rU (m' v' w : EReal) : EReal := ((1 / 100 : ℝ) : EReal) * (rR m' v' + tenth * w)

theorem c28 : Ideal.ofBits .f32 0x41E00000#32 = ((28 : ℝ) : EReal) := by
  simp [Ideal.ofBits, Ideal.ieee]
  rw [← EReal.coe_mul]; norm_num

theorem div_coe (x : EReal) (r : ℝ) (h : r ≠ 0) : Ideal.div x (r : EReal) = x * ((r⁻¹ : ℝ) : EReal) := by
  unfold Ideal.div
  rw [if_neg (by exact_mod_cast h), EReal.coe_inv]

theorem g_eq (s : EReal) : kG s = rG s := by
  unfold kG rG
  rw [c28, div_coe s 28 (by norm_num)]
  norm_num

theorem div_smul (r : ℝ) (hr : 0 < r) (x d : EReal) : Ideal.div ((r : EReal) * x) d = (r : EReal) * Ideal.div x d := by
  unfold Ideal.div
  by_cases hd : d = 0
  · rw [if_pos hd, if_pos hd]
    have hiff : 0 < (r : EReal) * x ↔ 0 < x := by
      induction x using EReal.rec with
      | bot => simp [EReal.coe_mul_bot_of_pos hr]
      | top => simp [EReal.coe_mul_top_of_pos hr]
      | coe a =>
        rw [← EReal.coe_mul]
        constructor
        · intro h
          have h : 0 < r * a := by exact_mod_cast h
          exact_mod_cast (pos_iff_pos_of_mul_pos h).mp hr
        · intro h
          have h : 0 < a := by exact_mod_cast h
          exact_mod_cast mul_pos hr h
    by_cases hx : 0 < x
    · rw [if_pos hx, if_pos (hiff.mpr hx), EReal.coe_mul_top_of_pos hr]
    · rw [if_neg hx, if_neg (fun h => hx (hiff.mp h)), EReal.coe_mul_bot_of_pos hr]
  · rw [if_neg hd, if_neg hd, mul_assoc]

theorem u_eq (m' v' w : EReal) : kU m' v' w = rU m' v' w := by
  unfold kU rU rR
  rw [div_coe m' b1 (by norm_num [b1]), div_coe v' b2 (by norm_num [b2])]
  have e2 : ((104857600000000000000000000 / 67267626542454041806644399 : ℝ)) = b2⁻¹ := by norm_num [b2]
  have e1 : m' * ((1000000000000000000 / 87842334540943071199 : ℝ) : EReal) = ((1 / 100 : ℝ) : EReal) * (m' * ((b1⁻¹ : ℝ) : EReal)) := by
    rw [mul_left_comm, ← EReal.coe_mul]
    congr 2
    norm_num [b1]
  rw [e1, e2, div_smul _ (by norm_num)]
  have e3 : ((1 / 1000 : ℝ) : EReal) * w = ((1 / 100 : ℝ) : EReal) * (tenth * w) := by
    rw [← mul_assoc, ← EReal.coe_mul]
    congr 2
    norm_num
  rw [e3]
  exact (EReal.left_distrib_of_nonneg_of_ne_top (by exact_mod_cast (by norm_num : (0 : ℝ) ≤ 1 / 100)) (EReal.coe_ne_top _) _ _).symm

theorem c90_val : c90 = ((15099494 / 2 ^ 24 : ℝ) : EReal) := by
  simp [c90, Ideal.ofBits, Ideal.ieee]
  rw [← EReal.coe_mul]; norm_num
theorem c95_val : c95 = ((15938355 / 2 ^ 24 : ℝ) : EReal) := by
  simp [c95, Ideal.ofBits, Ideal.ieee]
  rw [← EReal.coe_mul]; norm_num
theorem c05_val : c05 = ((13421773 / 2 ^ 28 : ℝ) : EReal) := by
  simp [c05, Ideal.ofBits, Ideal.ieee]
  rw [← EReal.coe_mul]; norm_num
theorem ceps_val : ceps = ((11258999 / 2 ^ 50 : ℝ) : EReal) := by
  simp [ceps, Ideal.ofBits, Ideal.ieee]
  rw [← EReal.coe_mul]; norm_num

/-- An infinite second moment makes the ratio zero. -/
theorem rR_top (m' : EReal) : rR m' ⊤ = 0 := by
  unfold rR
  rw [div_coe ⊤ b2 (by norm_num [b2]), EReal.top_mul_coe_of_pos (by norm_num [b2]), ceps_val]
  show Ideal.div _ ((⊤ : EReal) + _) = 0
  rw [EReal.top_add_coe]
  unfold Ideal.div
  rw [if_neg (by simp), EReal.inv_top, mul_zero]

/-- The bound on the ratio over the reals. -/
theorem ratio_bound (m g v : ℝ) (hm : |m| ≤ 2 ^ 64) (hv : 0 ≤ v) :
    0 < Real.sqrt ((15938355 / 2 ^ 24 * v + 13421773 / 2 ^ 28 * (g * g)) * b2⁻¹) + 11258999 / 2 ^ 50
    ∧ |((15099494 / 2 ^ 24 * m + 1 / 10 * g) * b1⁻¹) * (Real.sqrt ((15938355 / 2 ^ 24 * v + 13421773 / 2 ^ 28 * (g * g)) * b2⁻¹) + 11258999 / 2 ^ 50)⁻¹| ≤ 2 ^ 92 := by
  set z := (15938355 / 2 ^ 24 * v + 13421773 / 2 ^ 28 * (g * g)) * b2⁻¹ with hz
  have hs : |g| / 5 ≤ Real.sqrt z := by
    apply Real.le_sqrt_of_sq_le
    have h1 : (|g| / 5) ^ 2 = g * g / 25 := by rw [div_pow, sq_abs]; ring
    rw [h1, hz]
    have hgg : 0 ≤ g * g := mul_self_nonneg g
    have hb : (1 : ℝ) ≤ b2⁻¹ := by norm_num [b2]
    have h2 : g * g / 25 ≤ 15938355 / 2 ^ 24 * v + 13421773 / 2 ^ 28 * (g * g) := by
      have : 0 ≤ (15938355 / 2 ^ 24 : ℝ) * v := by positivity
      have : g * g / 25 ≤ (13421773 / 2 ^ 28 : ℝ) * (g * g) := by
        rw [div_eq_inv_mul]
        exact mul_le_mul_of_nonneg_right (by norm_num) hgg
      linarith
    have h3 : 0 ≤ 15938355 / 2 ^ 24 * v + 13421773 / 2 ^ 28 * (g * g) := by positivity
    nlinarith
  have hsn := Real.sqrt_nonneg z
  set D := Real.sqrt z + 11258999 / 2 ^ 50 with hD
  have hDpos : 0 < D := by rw [hD]; positivity
  refine ⟨hDpos, ?_⟩
  rw [abs_mul, abs_inv, abs_of_pos hDpos, ← div_eq_mul_inv, div_le_iff₀ hDpos, abs_mul]
  have hb1 : |b1⁻¹| ≤ 2 := by rw [abs_of_pos (by norm_num [b1])]; norm_num [b1]
  have hnum : |15099494 / 2 ^ 24 * m + 1 / 10 * g| ≤ 2 ^ 64 + |g| / 10 := by
    refine (abs_add_le _ _).trans ?_
    rw [abs_mul, abs_mul, abs_of_pos (by norm_num : (0 : ℝ) < 15099494 / 2 ^ 24), abs_of_pos (by norm_num : (0 : ℝ) < 1 / 10)]
    have := abs_nonneg m
    have : (15099494 / 2 ^ 24 : ℝ) * |m| ≤ 1 * |m| := mul_le_mul_of_nonneg_right (by norm_num) (abs_nonneg m)
    linarith
  have hg := abs_nonneg g
  calc |15099494 / 2 ^ 24 * m + 1 / 10 * g| * |b1⁻¹| ≤ (2 ^ 64 + |g| / 10) * 2 :=
        mul_le_mul hnum hb1 (abs_nonneg _) (by positivity)
    _ ≤ 2 ^ 92 * D := by
        rw [hD]
        have : (2 : ℝ) ^ 92 * (|g| / 5) ≤ 2 ^ 92 * Real.sqrt z := mul_le_mul_of_nonneg_left hs (by positivity)
        norm_num at this ⊢
        linarith

/-- The ratio is a real number of bounded size, whatever the gradient. -/
theorem rR_bound (g v : EReal) (m : ℝ) (hm : |m| ≤ 2 ^ 64) (hv : 0 ≤ v) : ∃ q : ℝ, rR (kM g m) (kV g v) = (q : EReal) ∧ |q| ≤ 2 ^ 92 := by
  have top : ∀ x : EReal, kV g v = ⊤ → ∃ q : ℝ, rR x (kV g v) = (q : EReal) ∧ |q| ≤ 2 ^ 92 := by
    intro x h
    exact ⟨0, by rw [h, rR_top, EReal.coe_zero], by norm_num⟩
  have h05 : c05 * ⊤ = ⊤ := by rw [c05_val]; exact EReal.coe_mul_top_of_pos (by norm_num)
  have hv' : (0 : EReal) ≤ c95 * v := mul_nonneg (by rw [c95_val]; exact_mod_cast (by norm_num : (0 : ℝ) ≤ 15938355 / 2 ^ 24)) hv
  have hne : c95 * v ≠ ⊥ := ne_of_gt (lt_of_lt_of_le EReal.bot_lt_zero hv')
  induction g using EReal.rec with
  | bot => exact top _ (by unfold kV; rw [EReal.bot_mul_bot, h05, EReal.add_top_of_ne_bot hne])
  | top => exact top _ (by unfold kV; rw [EReal.top_mul_top, h05, EReal.add_top_of_ne_bot hne])
  | coe a =>
    induction v using EReal.rec with
    | bot => exact absurd hv (by simp)
    | top =>
      refine top _ ?_
      unfold kV
      rw [c95_val, EReal.coe_mul_top_of_pos (by norm_num), c05_val, ← EReal.coe_mul, ← EReal.coe_mul, EReal.top_add_coe]
    | coe b =>
      have hb : 0 ≤ b := by exact_mod_cast hv
      obtain ⟨h1, h2⟩ := ratio_bound m a b hm hb
      refine ⟨_, ?_, h2⟩
      unfold rR kM kV
      rw [div_coe _ b1 (by norm_num [b1]), div_coe _ b2 (by norm_num [b2]), c90_val, c95_val, c05_val, ceps_val]
      simp only [tenth, ← EReal.coe_mul, ← EReal.coe_add]
      have hnn : ¬ ((15938355 / 2 ^ 24 * b + 13421773 / 2 ^ 28 * (a * a)) * b2⁻¹ < 0) := by
        rw [not_lt]
        have : 0 ≤ a * a := mul_self_nonneg a
        have : (0 : ℝ) ≤ b2⁻¹ := by norm_num [b2]
        positivity
      have hs : Ideal.sqrt (((15938355 / 2 ^ 24 * b + 13421773 / 2 ^ 28 * (a * a)) * b2⁻¹ : ℝ) : EReal)
          = ((Real.sqrt ((15938355 / 2 ^ 24 * b + 13421773 / 2 ^ 28 * (a * a)) * b2⁻¹) : ℝ) : EReal) := by
        show (if _ < _ then _ else _) = _
        rw [if_neg hnn]
      rw [hs, ← EReal.coe_add, div_coe _ _ h1.ne', ← EReal.coe_mul]

/-- The new parameter is a real number of bounded size. -/
theorem p_bound (g v : EReal) (m w : ℝ) (hm : |m| ≤ 2 ^ 64) (hv : 0 ≤ v) (hw : |w| ≤ 2 ^ 101) :
    ∃ q : ℝ, (w : EReal) - rU (kM g m) (kV g v) w = (q : EReal) ∧ |q| ≤ 2 ^ 103 := by
  obtain ⟨q, hq, hb⟩ := rR_bound g v m hm hv
  refine ⟨w - 1 / 100 * (q + 1 / 10 * w), ?_, ?_⟩
  · unfold rU
    rw [hq]
    simp only [tenth, ← EReal.coe_mul, ← EReal.coe_add, ← EReal.coe_sub]
  · rw [abs_le] at hw hb ⊢
    norm_num at hw hb ⊢
    constructor <;> linarith

end Cert.Own

end
-- ==== Proof.KerV.lean ====
/- The kernel's column-group functions read at an index, over the extended reals. -/
module

public import proofs.«01_k».proof.Proof.SumV
public import proofs.«01_k».proof.Proof.Quant
public import proofs.«01_k».proof.Proof.Scal
public import Idealize.ShloMosaic.Lib.Pointwise
public import Idealize.ShloMosaic.PureOps.Ideal.Laws

@[expose] public section

set_option maxRecDepth 16384

noncomputable section

namespace Cert.Own

open Idealize.ShloMosaic Idealize.ShloMosaic.TcCoe
open Cert.KernelIdeal Cert.KernelIdeal.Gen

/-- A pattern of bits is the number it denotes. -/
theorem bits32 (b : BitVec 32) : Scalar.ofBits (F := Ideal) .f32 b = Ideal.ofBits .f32 b := rfl

theorem n_inv_n : Named.named (F := Ideal) κ "inv_n" (φ := .f32) 0x3D124925#32 = ((1 / 28 : ℝ) : EReal) :=
  IdealRules.named_const.ideal_named_scalar _ _ _ _ rfl
theorem n_tenth : Named.named (F := Ideal) κ "tenth" (φ := .f32) 0x3DCCCCCD#32 = tenth :=
  IdealRules.named_const.ideal_named_scalar _ _ _ _ rfl
theorem n_lr_inv_bc1 : Named.named (F := Ideal) κ "lr_inv_bc1" (φ := .f32) 0x3C3A8418#32
    = ((1000000000000000000 / 87842334540943071199 : ℝ) : EReal) :=
  IdealRules.named_const.ideal_named_scalar _ _ _ _ rfl
theorem n_inv_bc2 : Named.named (F := Ideal) κ "inv_bc2" (φ := .f32) 0x3FC78729#32
    = ((104857600000000000000000000 / 67267626542454041806644399 : ℝ) : EReal) :=
  IdealRules.named_const.ideal_named_scalar _ _ _ _ rfl
theorem n_lr_wd : Named.named (F := Ideal) κ "lr_wd" (φ := .f32) 0x3A83126F#32 = ((1 / 1000 : ℝ) : EReal) :=
  IdealRules.named_const.ideal_named_scalar _ _ _ _ rfl

/-! The operations at an index, whatever the constants. -/

theorem m_gen (a t k : Ideal .f32) (gs m : FVec Ideal S32x128 .f32) (y : S32x128.Idx) :
    addf (mulf (broadcast S32x128 a) m) (mulf (broadcast S32x128 t) (mulf gs (broadcast S32x128 k))) y
      = (a * m y + t * (gs y * k) : EReal) := rfl
theorem v_gen (a t k : Ideal .f32) (gs v : FVec Ideal S32x128 .f32) (y : S32x128.Idx) :
    addf (mulf (broadcast S32x128 a) v) (mulf (broadcast S32x128 t) (mulf (mulf gs (broadcast S32x128 k)) (mulf gs (broadcast S32x128 k)))) y
      = (a * v y + t * ((gs y * k) * (gs y * k)) : EReal) := rfl
theorem u_gen (k1 k2 ke k3 : Ideal .f32) (a b w : FVec Ideal S32x128 .f32) (y : S32x128.Idx) :
    addf (divf (mulf a (broadcast S32x128 k1)) (addf (sqrt (mulf b (broadcast S32x128 k2))) (broadcast S32x128 ke)))
      (mulf (broadcast S32x128 k3) w) y
      = (Ideal.div (a y * k1) (Ideal.sqrt (b y * k2) + ke) + k3 * w y : EReal) := rfl

theorem mF_eq (gs m : FVec Ideal S32x128 .f32) (y : S32x128.Idx) : mF gs m y = kM (kG (gs y)) (m y) := by
  unfold mF gF
  rw [m_gen, n_inv_n, n_tenth, bits32]
  unfold kM kG
  rfl
theorem vF_eq (gs v : FVec Ideal S32x128 .f32) (y : S32x128.Idx) : vF gs v y = kV (kG (gs y)) (v y) := by
  unfold vF gF
  rw [v_gen, n_inv_n, bits32, bits32]
  unfold kV kG
  rfl
theorem masterF_eq (hi lo : FVec Ideal S32x128 .bf16) (y : S32x128.Idx) : masterF hi lo y = (hi y + lo y : EReal) := rfl
theorem updF_eq (gs m v : FVec Ideal S32x128 .f32) (hi lo : FVec Ideal S32x128 .bf16) (y : S32x128.Idx) :
    updF gs m v hi lo y = kU (kM (kG (gs y)) (m y)) (kV (kG (gs y)) (v y)) (hi y + lo y) := by
  unfold updF
  rw [u_gen, n_lr_inv_bc1, n_inv_bc2, n_lr_wd, bits32, mF_eq, vF_eq, masterF_eq]
  unfold kU
  rfl
theorem sub_at (w u : FVec Ideal S32x128 .f32) (y : S32x128.Idx) : subf w u y = (w y - u y : EReal) := rfl
theorem pF_eq (gs m v : FVec Ideal S32x128 .f32) (hi lo : FVec Ideal S32x128 .bf16) (y : S32x128.Idx) :
    pF gs m v hi lo y = (hi y + lo y) - kU (kM (kG (gs y)) (m y)) (kV (kG (gs y)) (v y)) (hi y + lo y) := by
  unfold pF
  rw [sub_at, updF_eq, masterF_eq]
theorem hiF_eq (p : FVec Ideal S32x128 .f32) (y : S32x128.Idx) : hiF p y = p y := rfl
theorem loF_eq (p : FVec Ideal S32x128 .f32) (y : S32x128.Idx) : loF p y = (p y - p y : EReal) := rfl

/-- The largest magnitude of each row. -/
def amaxF (p : FVec Ideal S32x128 .f32) : FVec Ideal S32x1 .f32 :=
  shapeCast S32x1 (multiReduction .maximumf [1] S32 (absf p) 0xFF800000#32 reduces_S32x128_S32 (.inl rfl) rfl) shapeCasts_S32_S32x1

theorem amaxF_eq (p : FVec Ideal S32x128 .f32) (r : Fin 32) : amaxF p (ix2 r (0 : Fin 1)) = amx (fun l => p (ix2 r l)) := by
  unfold amaxF
  pointwise
  rfl

theorem y_gen (a : FVec Ideal S32x1 .f32) (k : Ideal .f32) (i : S32x1.Idx) : mulf a (broadcast S32x1 k) i = (a i * k : EReal) := rfl

theorem yF_eq (p : FVec Ideal S32x128 .f32) (r : Fin 32) : yF p (ix2 r (0 : Fin 1)) = amx (fun l => p (ix2 r l)) * c448 := by
  have h : yF p = mulf (amaxF p) (broadcast S32x1 (Scalar.ofBits .f32 0x3B124925#32)) := by unfold yF amaxF; rfl
  rw [h, y_gen, bits32, amaxF_eq]

theorem stepB_eq (y : FVec Ideal S32x1 .f32) (b : BitVec 32) (e : IVec S32x1 32) (i : S32x1.Idx) : stepB y b e i = stepS (y i) b (e i) := rfl

theorem sel_at (e : IVec S32x1 32) (i : S32x1.Idx) :
    select (cmpi .eq e (broadcast S32x1 0#32)) (broadcast S32x1 1065353216#32) (addi e (broadcast S32x1 8388608#32)) i
      = Scalar.select (IntOp.cmpi .eq (e i) 0#32) 1065353216#32 (e i + 8388608#32) := rfl

theorem scaleW_eq (y : FVec Ideal S32x1 .f32) (i : S32x1.Idx) : scaleW y i = scaleS (y i) := by
  unfold scaleW scaleS
  refine (sel_at _ i).trans ?_
  rw [stepB_eq, stepB_eq, stepB_eq, stepB_eq, stepB_eq, stepB_eq, stepB_eq, stepB_eq]
  rfl

theorem bits_at (e : IVec S32x1 32) (i : S32x1.Idx) : bitcastToFloat (F := Ideal) .f32 e i = Ideal.ofBits .f32 (e i) := rfl

theorem scaleF_eq (p : FVec Ideal S32x128 .f32) (r : Fin 32) :
    scaleF p (ix2 r (0 : Fin 1)) = Ideal.ofBits .f32 (scaleS (amx (fun l => p (ix2 r l)) * c448)) := by
  rw [← yF_eq, ← scaleW_eq]
  exact bits_at (scaleW (yF p)) _

theorem invF_eq (p : FVec Ideal S32x128 .f32) (r : Fin 32) :
    invF p (ix2 r (0 : Fin 1)) = Ideal.ofBits .f32 (2130706432#32 - scaleS (amx (fun l => p (ix2 r l)) * c448)) := by
  rw [← yF_eq, ← scaleW_eq]
  exact bits_at (subi (broadcast S32x1 2130706432#32) (scaleW (yF p))) _

theorem codes_gen (p q : FVec Ideal S32x128 .f32) (a b : Ideal .f32) (y : S32x128.Idx) :
    truncf .fp8e4m3 (minimumf (broadcast S32x128 a) (maximumf (broadcast S32x128 b) (mulf p q))) bitsLt_fp8e4m3_f32 y
    = (min a (max b (p y * q y : EReal)) : EReal) := rfl

theorem codesF_eq (p : FVec Ideal S32x128 .f32) (r : Fin 32) (l : Fin 128) :
    codesF p (ix2 r l) = min (Ideal.ofBits .f32 0x43E00000#32) (max (Ideal.ofBits .f32 0xC3E00000#32)
      (p (ix2 r l) * Ideal.ofBits .f32 (2130706432#32 - scaleS (amx (fun l => p (ix2 r l)) * c448)))) := by
  rw [← invF_eq]
  have e : ∀ g : FVec Ideal S32x1 .f32, broadcastTo S32x128 g broadcasts_S32x1_S32x128 (ix2 r l) = g (ix2 r (0 : Fin 1)) := by
    intro g
    pointwise
  unfold codesF
  rw [codes_gen, e, bits32, bits32]

theorem psStep_eq (n : ℕ) (hn : n < 128) (p acc : FVec Ideal S32x128 .f32) (r : Fin 32) (l : Fin 128) :
    psStep (BitVec.ofNat 32 n) p acc (ix2 r l) = if l.val = n then scaleF p (ix2 r (0 : Fin 1)) else acc (ix2 r l) := by
  unfold psStep
  generalize scaleF p = g
  pointwise
  have hl := l.isLt
  have key : IntOp.cmpi CmpIPredicate.eq (BitVec.ofNat 32 l.val) (BitVec.ofNat 32 n) = BitVec.ofBool (decide (l.val = n)) := by
    unfold IntOp.cmpi
    congr 1
    have : (BitVec.ofNat 32 l.val = BitVec.ofNat 32 n) ↔ l.val = n := by
      constructor
      · intro h
        have := congrArg BitVec.toNat h
        simp at this
        omega
      · intro h; rw [h]
    rw [Bool.eq_iff_iff, beq_iff_eq, decide_eq_true_iff]
    exact this
  rw [key]
  by_cases h : l.val = n <;> simp [h, Scalar.select]

theorem psB_eq (p : Fin 16 → FVec Ideal S32x128 .f32) (r : Fin 32) (n : Fin 16) :
    psB p (ix2 r ⟨n.val, by omega⟩) = scaleF (p n) (ix2 r (0 : Fin 1)) := by
  unfold psB
  simp only [psStep_eq 0 (by decide), psStep_eq 1 (by decide), psStep_eq 2 (by decide), psStep_eq 3 (by decide), psStep_eq 4 (by decide),
    psStep_eq 5 (by decide), psStep_eq 6 (by decide), psStep_eq 7 (by decide), psStep_eq 8 (by decide), psStep_eq 9 (by decide),
    psStep_eq 10 (by decide), psStep_eq 11 (by decide), psStep_eq 12 (by decide), psStep_eq 13 (by decide), psStep_eq 14 (by decide),
    psStep_eq 15 (by decide)]
  obtain ⟨n, hn⟩ := n
  interval_cases n <;>
    simp only [Nat.reduceEqDiff, if_true, if_false, reduceIte, Fin.reduceFinMk]

end Cert.Own

end
-- ==== Proof.RefV.lean ====
/- The reference's results read at an index, over the extended reals. -/
module

public import proofs.«01_k».proof.Proof.Gen.ReferenceIdeal.Frame
public import proofs.«01_k».proof.Proof.Quant
public import proofs.«01_k».proof.Proof.Scal
public import Idealize.ShloMosaic.Lib.Pointwise
public import Idealize.ShloMosaic.PureOps.Ideal.Laws

@[expose] public section

set_option maxRecDepth 16384

noncomputable section

namespace Cert.OwnR

open Idealize.ShloMosaic Idealize.ShloMosaic.TcCoe
open Cert.ReferenceIdeal Cert.ReferenceIdeal.Gen
open Cert.Own (kM kV rG rR rU tenth b1 b2 amx c448 refE)

variable (a0 : Vec Ideal S28x256x14336 .fp8e5m2) (a1 : Vec Ideal S28x256x112 .f32) (hi lo : Vec Ideal S256x14336 .bf16) (a4 a5 : Vec Ideal S256x14336 .f32)

/-- A pattern of bits is the number it denotes. -/
theorem bits32 (b : BitVec 32) : Scalar.ofBits (F := Ideal) .f32 b = Ideal.ofBits .f32 b := rfl

/-- The sum over the ranks at an element. -/
def gsum (R : Fin 256) (C : Fin 14336) : EReal := ∑ x : Fin 28, a0 (ix3 x R C) * a1 (ix3 x R ⟨C.val / 128, by omega⟩)

theorem pay3_eq (R : Fin 256) (C : Fin 14336) : k0_pay3 a0 a1 (ix2 R C) = rG (gsum a0 a1 R C) := by
  pointwise [k0_pay3]
  rfl

theorem pay4_eq (R : Fin 256) (C : Fin 14336) : k0_pay4 a0 a1 a4 (ix2 R C) = kM (rG (gsum a0 a1 R C)) (a4 (ix2 R C)) := by
  rw [← pay3_eq]
  rfl

theorem pay5_eq (R : Fin 256) (C : Fin 14336) : k0_pay5 a0 a1 a5 (ix2 R C) = kV (rG (gsum a0 a1 R C)) (a5 (ix2 R C)) := by
  rw [← pay3_eq]
  rfl

theorem pay6_eq (R : Fin 256) (C : Fin 14336) :
    k0_pay6 a0 a1 a4 a5 (ix2 R C) = rR (kM (rG (gsum a0 a1 R C)) (a4 (ix2 R C))) (kV (rG (gsum a0 a1 R C)) (a5 (ix2 R C))) := by
  rw [← pay4_eq, ← pay5_eq]
  rfl

theorem pay7_eq (p u : FVec Ideal S256x14336 .f32) (i : S256x14336.Idx) : k0_pay7 p u i = ((1 / 100 : ℝ) : EReal) * (u i + tenth * p i) := rfl

theorem pay8_eq (p u : FVec Ideal S256x14336 .f32) (i : S256x14336.Idx) : k0_pay8 p u i = p i - ((1 / 100 : ℝ) : EReal) * (u i + tenth * p i) := rfl

theorem pay10_eq (p u : FVec Ideal S256x14336 .f32) (i : S256x14336.Idx) : k0_pay10 p u i = k0_pay8 p u i - k0_pay8 p u i := rfl

theorem pay11_eq (p u : FVec Ideal S256x14336 .f32) (R : Fin 256) (b : Fin 112) (l : Fin 128) :
    k0_pay11 p u (ix3 R b l) = k0_pay8 p u (ix2 R ⟨128 * b.val + l.val, by omega⟩) := by
  unfold k0_pay11
  generalize k0_pay8 p u = g
  refine shapeCast_apply _ _ _ _ ?_
  rw [Shape.rowMajor_val_three, Shape.rowMajor_val_two]
  show R.val * 14336 + (128 * b.val + l.val) = (R.val * 112 + b.val) * 128 + l.val
  omega

/-- The largest magnitude of each block. -/
def amax (g : FVec Ideal S256x112x128 .f32) : FVec Ideal S256x112 .f32 :=
  multiReduction .maximumf [2] S256x112 (absf g) 0xFF800000#32 reduces_S256x112x128_S256x112 (.inl rfl) rfl

theorem amax_eq (g : FVec Ideal S256x112x128 .f32) (R : Fin 256) (b : Fin 112) : amax g (ix2 R b) = amx (fun l => g (ix3 R b l)) := by
  unfold amax
  pointwise
  rfl

/-- The exponent of a scale, whatever the constants. -/
def refEg (y t z d o : EReal) : EReal := Scalar.select (Ideal.cmp .olt y t) z (Ideal.liftRound Int.floor (Ideal.div (Ideal.log y) d) + o)

theorem refE_g (y : EReal) : refE y = refEg y (Ideal.ofBits .f32 0x00800000#32) (Ideal.ofBits .f32 0x00000000#32) ((Real.log 2 : ℝ) : EReal) (Ideal.ofBits .f32 0x3F800000#32) := by
  unfold refE refEg
  with_reducible rfl

/-- The exponent of the scales, whatever the maxima over 448 and the constants. -/
theorem exp_gen (y : FVec Ideal S256x112 .f32) (i : S256x112.Idx) (t z d o : Ideal .f32) :
    select (cmpf .olt y (broadcast S256x112 t)) (broadcast S256x112 z)
      (addf (floor (divf (log y) (broadcast S256x112 d))) (broadcast S256x112 o)) i
      = refEg (y i) t z d o := rfl

theorem ln2_val : Named.named (F := Ideal) κ "ln2" (φ := .f32) 0x3F317218#32 = ((Real.log 2 : ℝ) : EReal) :=
  IdealRules.named_const.ideal_named_scalar _ _ _ _ rfl

/-- The exponent of the scales, whatever the maxima over 448. -/
theorem exp_at (y : FVec Ideal S256x112 .f32) (i : S256x112.Idx) :
    select (cmpf .olt y (broadcast S256x112 (Scalar.ofBits .f32 0x00800000#32))) (broadcast S256x112 (Scalar.ofBits .f32 0x00000000#32))
      (addf (floor (divf (log y) (broadcast S256x112 (Named.named κ "ln2" 0x3F317218#32)))) (broadcast S256x112 (Scalar.ofBits .f32 0x3F800000#32))) i
      = refE (y i) := by
  rw [exp_gen, ln2_val, bits32, bits32, bits32, refE_g]

theorem y_gen (a : FVec Ideal S256x112 .f32) (k : Ideal .f32) (i : S256x112.Idx) : mulf a (broadcast S256x112 k) i = (a i * k : EReal) := rfl

theorem pay12_eq (p u : FVec Ideal S256x14336 .f32) (R : Fin 256) (b : Fin 112) :
    k0_pay12 p u (ix2 R b) = refE (amx (fun l => k0_pay8 p u (ix2 R ⟨128 * b.val + l.val, by omega⟩)) * c448) := by
  have e : amx (fun l => k0_pay8 p u (ix2 R ⟨128 * b.val + l.val, by omega⟩)) = amax (k0_pay11 p u) (ix2 R b) := by
    rw [amax_eq]
    exact congrArg amx (funext fun l => (pay11_eq p u R b l).symm)
  rw [e]
  have h := (exp_at (mulf (amax (k0_pay11 p u)) (broadcast S256x112 (Scalar.ofBits .f32 0x3B124925#32))) (ix2 R b)).trans
    (congrArg refE (y_gen (amax (k0_pay11 p u)) (Scalar.ofBits .f32 0x3B124925#32) (ix2 R b)))
  rw [show c448 = Scalar.ofBits (F := Ideal) .f32 0x3B124925#32 from (bits32 _).symm, ← h]
  unfold k0_pay12 amax
  with_reducible rfl

theorem exp2_at (e : FVec Ideal S256x112 .f32) (i : S256x112.Idx) : exp2 e i = Ideal.exp2 (e i) := rfl

theorem pay13_eq (p u : FVec Ideal S256x14336 .f32) (i : S256x112.Idx) : k0_pay13 p u i = Ideal.exp2 (k0_pay12 p u i) :=
  exp2_at (k0_pay12 p u) i

/-- The codes of the blocks, whatever the blocks and the exponents. -/
theorem codes_at (g : FVec Ideal S256x112x128 .f32) (e : FVec Ideal S256x112 .f32) (R : Fin 256) (b : Fin 112) (l : Fin 128) :
    truncf .fp8e4m3 (minimumf (broadcast S256x112x128 (Scalar.ofBits .f32 0x43E00000#32)) (maximumf (broadcast S256x112x128 (Scalar.ofBits .f32 0xC3E00000#32))
      (mulf g (broadcastTo S256x112x128 (shapeCast S256x112x1 (exp2 (subf (broadcast S256x112 (Scalar.ofBits .f32 0x00000000#32)) e))
      shapeCasts_S256x112_S256x112x1) broadcasts_S256x112x1_S256x112x128)))) bitsLt_fp8e4m3_f32 (ix3 R b l)
    = min (Ideal.ofBits .f32 0x43E00000#32) (max (Ideal.ofBits .f32 0xC3E00000#32)
      (g (ix3 R b l) * Ideal.exp2 (Ideal.ofBits .f32 0x00000000#32 - e (ix2 R b)))) := by
  have e' : ∀ h : FVec Ideal S256x112 .f32, broadcastTo S256x112x128 (shapeCast S256x112x1 h
      shapeCasts_S256x112_S256x112x1) broadcasts_S256x112x1_S256x112x128 (ix3 R b l) = h (ix2 R b) := by
    intro h
    pointwise
  have e2 := e' (exp2 (subf (broadcast S256x112 (Scalar.ofBits .f32 0x00000000#32)) e))
  have e3 : exp2 (subf (broadcast S256x112 (Scalar.ofBits .f32 0x00000000#32)) e) (ix2 R b) = Ideal.exp2 (Ideal.ofBits .f32 0x00000000#32 - e (ix2 R b)) :=
    exp2_at _ _
  rw [← e3, ← e2]
  generalize broadcastTo S256x112x128 (shapeCast S256x112x1 (exp2 (subf (broadcast S256x112 (Scalar.ofBits .f32 0x00000000#32)) e))
      shapeCasts_S256x112_S256x112x1) broadcasts_S256x112x1_S256x112x128 = h
  rfl

/-- The codes in the reference's blocked shape. -/
theorem pay14_eq (p u : FVec Ideal S256x14336 .f32) (R : Fin 256) (b : Fin 112) (l : Fin 128) :
    k0_pay14 p u (ix3 R b l) = min (Ideal.ofBits .f32 0x43E00000#32) (max (Ideal.ofBits .f32 0xC3E00000#32)
      (k0_pay11 p u (ix3 R b l) * Ideal.exp2 (Ideal.ofBits .f32 0x00000000#32 - k0_pay12 p u (ix2 R b)))) := by
  unfold k0_pay14
  exact codes_at (k0_pay11 p u) (k0_pay12 p u) R b l

theorem pay1_eq (g : FVec Ideal S256x112x128 .fp8e4m3) (R : Fin 256) (C : Fin 14336) :
    k0_pay1 g (ix2 R C) = g (ix3 R ⟨C.val / 128, by omega⟩ ⟨C.val % 128, by omega⟩) := by
  unfold k0_pay1
  refine shapeCast_apply _ _ _ _ ?_
  rw [Shape.rowMajor_val_three, Shape.rowMajor_val_two]
  show (R.val * 112 + C.val / 128) * 128 + C.val % 128 = R.val * 14336 + C.val
  omega

end Cert.OwnR

end
-- ==== Proof.RefG.lean ====
/- The reference's seven results read at an index, as functions of its arguments' elements. -/
module

public import proofs.«01_k».proof.Proof.Gen.ReferenceIdeal.Value
public import proofs.«01_k».proof.Proof.RefV

@[expose] public section

set_option maxRecDepth 16384

noncomputable section

namespace Cert.OwnR

open Idealize.ShloMosaic Idealize.ShloMosaic.TcCoe
open Cert.ReferenceIdeal Cert.ReferenceIdeal.Gen Cert.ReferenceIdeal.Value
open Cert.Own (kM kV rG rR rU tenth b1 b2 amx c448 refE)

variable (a0 : Vec Ideal S28x256x14336 .fp8e5m2) (a1 : Vec Ideal S28x256x112 .f32) (hi lo : Vec Ideal S256x14336 .bf16) (a4 a5 : Vec Ideal S256x14336 .f32)

/-- The new first moment, second moment, the update and the new parameter at an element. -/
def Mat (R : Fin 256) (C : Fin 14336) : EReal := kM (rG (gsum a0 a1 R C)) (a4 (ix2 R C))
def Vat (R : Fin 256) (C : Fin 14336) : EReal := kV (rG (gsum a0 a1 R C)) (a5 (ix2 R C))
def Wat (R : Fin 256) (C : Fin 14336) : EReal := hi (ix2 R C) + lo (ix2 R C)
def Uat (R : Fin 256) (C : Fin 14336) : EReal := rU (Mat a0 a1 a4 R C) (Vat a0 a1 a5 R C) (Wat hi lo R C)
def Pat (R : Fin 256) (C : Fin 14336) : EReal := Wat hi lo R C - Uat a0 a1 hi lo a4 a5 R C
/-- A block of 128 new parameters, and the exponent of its scale. -/
def Bat (R : Fin 256) (b : Fin 112) (l : Fin 128) : EReal := Pat a0 a1 hi lo a4 a5 R ⟨128 * b.val + l.val, by omega⟩
def Eat (R : Fin 256) (b : Fin 112) : EReal := refE (amx (Bat a0 a1 hi lo a4 a5 R b) * c448)

theorem pay15_eq (i : S256x14336.Idx) : k0_pay15 a0 a1 hi lo a4 a5 i = hi i + lo i := by
  unfold k0_pay15
  rw [View.ld_unit_zero hz6, View.ld_unit_zero hz6]
  rfl

theorem pay16_eq (R : Fin 256) (C : Fin 14336) : k0_pay16 a0 a1 hi lo a4 a5 (ix2 R C) = rR (Mat a0 a1 a4 R C) (Vat a0 a1 a5 R C) := by
  unfold k0_pay16
  rw [View.ld_unit_zero (S := S28x256x14336) hz0 _ a0, View.ld_unit_zero (S := S28x256x112) hz1 _ a1, View.ld_unit_zero (S := S256x14336) hz4 _ a4, View.ld_unit_zero (S := S256x14336) hz5 _ a5]
  exact pay6_eq a0 a1 a4 a5 R C

theorem G8_eq (R : Fin 256) (C : Fin 14336) : G8 (F := Ideal) a0 a1 hi lo a4 a5 (ix2 R C) = Mat a0 a1 a4 R C := pay4_eq a0 a1 a4 R C
theorem G9_eq (R : Fin 256) (C : Fin 14336) : G9 (F := Ideal) a0 a1 hi lo a4 a5 (ix2 R C) = Vat a0 a1 a5 R C := pay5_eq a0 a1 a5 R C
theorem G10_eq (R : Fin 256) (C : Fin 14336) : G10 (F := Ideal) a0 a1 hi lo a4 a5 (ix2 R C) = Uat a0 a1 hi lo a4 a5 R C := by
  show k0_pay7 _ _ _ = _
  rw [pay7_eq, pay15_eq, pay16_eq]
  rfl

theorem pay8_at (R : Fin 256) (C : Fin 14336) :
    k0_pay8 (k0_pay15 a0 a1 hi lo a4 a5) (k0_pay16 a0 a1 hi lo a4 a5) (ix2 R C) = Pat a0 a1 hi lo a4 a5 R C := by
  rw [pay8_eq, pay15_eq, pay16_eq]
  rfl

theorem pay9_eq (p u : FVec Ideal S256x14336 .f32) (i : S256x14336.Idx) : k0_pay9 p u i = k0_pay8 p u i := rfl

theorem G6_eq (R : Fin 256) (C : Fin 14336) : G6 (F := Ideal) a0 a1 hi lo a4 a5 (ix2 R C) = Pat a0 a1 hi lo a4 a5 R C :=
  (pay9_eq _ _ _).trans (pay8_at a0 a1 hi lo a4 a5 R C)
theorem G7_eq (R : Fin 256) (C : Fin 14336) :
    G7 (F := Ideal) a0 a1 hi lo a4 a5 (ix2 R C) = Pat a0 a1 hi lo a4 a5 R C - Pat a0 a1 hi lo a4 a5 R C := by
  show k0_pay10 _ _ _ = _
  rw [pay10_eq, pay8_at]

theorem pay12_at (R : Fin 256) (b : Fin 112) :
    k0_pay12 (k0_pay15 a0 a1 hi lo a4 a5) (k0_pay16 a0 a1 hi lo a4 a5) (ix2 R b) = Eat a0 a1 hi lo a4 a5 R b := by
  rw [pay12_eq]
  unfold Eat
  congr 3
  funext l
  exact pay8_at a0 a1 hi lo a4 a5 R _

theorem G12_eq (R : Fin 256) (b : Fin 112) : G12 (F := Ideal) a0 a1 hi lo a4 a5 (ix2 R b) = Ideal.exp2 (Eat a0 a1 hi lo a4 a5 R b) := by
  show k0_pay13 _ _ _ = _
  rw [pay13_eq, pay12_at]

theorem G11_eq (R : Fin 256) (b : Fin 112) (l : Fin 128) :
    G11 (F := Ideal) a0 a1 hi lo a4 a5 (ix2 R ⟨128 * b.val + l.val, by omega⟩)
    = min (Ideal.ofBits .f32 0x43E00000#32) (max (Ideal.ofBits .f32 0xC3E00000#32)
      (Bat a0 a1 hi lo a4 a5 R b l * Ideal.exp2 (Ideal.ofBits .f32 0x00000000#32 - Eat a0 a1 hi lo a4 a5 R b))) := by
  show k0_pay1 _ _ = _
  have eb : (⟨(128 * b.val + l.val) / 128, by omega⟩ : Fin 112) = b := Fin.ext (by show (128 * b.val + l.val) / 128 = b.val; omega)
  have el : (⟨(128 * b.val + l.val) % 128, by omega⟩ : Fin 128) = l := Fin.ext (by show (128 * b.val + l.val) % 128 = l.val; omega)
  rw [pay1_eq, eb, el, pay14_eq, pay12_at, pay11_eq, pay8_at]
  rfl

end Cert.OwnR

end
-- ==== Proof.Arr.lean ====
/- Where the elements of the kernel's blocks lie in its arrays, and the blocks of its arguments. -/
module

public import proofs.«01_k».proof.Proof.Run
public import proofs.«01_k».proof.Proof.KerV
public import proofs.«01_k».proof.Proof.RefG
public import Idealize.ShloMosaic.Lib.Pipeline.Value

@[expose] public section

set_option maxRecDepth 16384

noncomputable section

namespace Cert.Own

open Idealize.ShloMosaic Idealize.ShloMosaic.TcCoe
open Cert.KernelIdeal Cert.KernelIdeal.Gen
open Cert.OwnR (gsum Mat Vat Wat Uat Pat Bat Eat)

theorem lt56 (t : Fin cfg0.N) : t.val < 56 := lt_of_lt_of_eq t.isLt N_56

/-- Row `r` of point `t`'s blocks, its column group `n`, and column `l` of that group, in the arrays. -/
def row (t : Fin cfg0.N) (r : Fin 32) : Fin 256 := ⟨32 * (t.val % 8) + r.val, by omega⟩
def grp (t : Fin cfg0.N) (n : Fin 16) : Fin 112 := ⟨16 * (t.val / 8) + n.val, by have := lt56 t; omega⟩
def col (t : Fin cfg0.N) (n : Fin 16) (l : Fin 128) : Fin 14336 := ⟨128 * (grp t n).val + l.val, by omega⟩
/-- The column group of a column of a block, and the column in it. -/
def nq (q : Fin 2048) : Fin 16 := ⟨q.val / 128, by omega⟩
def lq (q : Fin 2048) : Fin 128 := ⟨q.val % 128, by omega⟩

theorem col_val (t : Fin cfg0.N) (q : Fin 2048) : (col t (nq q) (lq q)).val = 2048 * (t.val / 8) + q.val := by
  show 128 * (16 * (t.val / 8) + q.val / 128) + q.val % 128 = _
  omega

theorem idx0 : ∀ t : Fin cfg0.N, win0_0.index t (0 : Fin 3) = 0 ∧ win0_0.index t (1 : Fin 3) = t.val % 8 ∧ win0_0.index t (2 : Fin 3) = t.val / 8 :=
  (by decide +kernel : ∀ t : Fin grid0.N, _)
theorem idx1 : ∀ t : Fin cfg0.N, win0_1.index t (0 : Fin 3) = 0 ∧ win0_1.index t (1 : Fin 3) = t.val / 8 ∧ win0_1.index t (2 : Fin 3) = 0 :=
  (by decide +kernel : ∀ t : Fin grid0.N, _)
theorem idx2 : ∀ t : Fin cfg0.N, win0_2.index t (0 : Fin 2) = t.val % 8 ∧ win0_2.index t (1 : Fin 2) = t.val / 8 :=
  (by decide +kernel : ∀ t : Fin grid0.N, _)
theorem idx3 : ∀ t : Fin cfg0.N, win0_3.index t (0 : Fin 2) = t.val % 8 ∧ win0_3.index t (1 : Fin 2) = t.val / 8 :=
  (by decide +kernel : ∀ t : Fin grid0.N, _)
theorem idx4 : ∀ t : Fin cfg0.N, win0_4.index t (0 : Fin 2) = t.val % 8 ∧ win0_4.index t (1 : Fin 2) = t.val / 8 :=
  (by decide +kernel : ∀ t : Fin grid0.N, _)
theorem idx5 : ∀ t : Fin cfg0.N, win0_5.index t (0 : Fin 2) = t.val % 8 ∧ win0_5.index t (1 : Fin 2) = t.val / 8 :=
  (by decide +kernel : ∀ t : Fin grid0.N, _)
theorem idx6 : ∀ t : Fin cfg0.N, win0_6.index t (0 : Fin 2) = t.val % 8 ∧ win0_6.index t (1 : Fin 2) = t.val / 8 :=
  (by decide +kernel : ∀ t : Fin grid0.N, _)
theorem idx7 : ∀ t : Fin cfg0.N, win0_7.index t (0 : Fin 2) = t.val % 8 ∧ win0_7.index t (1 : Fin 2) = t.val / 8 :=
  (by decide +kernel : ∀ t : Fin grid0.N, _)
theorem idx8 : ∀ t : Fin cfg0.N, win0_8.index t (0 : Fin 2) = t.val % 8 ∧ win0_8.index t (1 : Fin 2) = t.val / 8 :=
  (by decide +kernel : ∀ t : Fin grid0.N, _)
theorem idx9 : ∀ t : Fin cfg0.N, win0_9.index t (0 : Fin 2) = t.val % 8 ∧ win0_9.index t (1 : Fin 2) = t.val / 8 :=
  (by decide +kernel : ∀ t : Fin grid0.N, _)
theorem idx10 : ∀ t : Fin cfg0.N, win0_10.index t (0 : Fin 2) = t.val % 8 ∧ win0_10.index t (1 : Fin 2) = t.val / 8 :=
  (by decide +kernel : ∀ t : Fin grid0.N, _)
theorem idx11 : ∀ t : Fin cfg0.N, win0_11.index t (0 : Fin 2) = t.val % 8 ∧ win0_11.index t (1 : Fin 2) = t.val / 8 :=
  (by decide +kernel : ∀ t : Fin grid0.N, _)
theorem idx12 : ∀ t : Fin cfg0.N, win0_12.index t (0 : Fin 2) = t.val / 8 ∧ win0_12.index t (1 : Fin 2) = 0 :=
  (by decide +kernel : ∀ t : Fin grid0.N, _)

theorem emb0 (t : Fin cfg0.N) (k : Fin 28) (r : Fin 32) (q : Fin 2048) :
    ((cfg0.win 0).blk t).view.emb (ix3 k r q) = ix3 k (row t r) (col t (nq q) (lq q)) := by
  obtain ⟨e0, e1, e2⟩ := idx0 t
  funext a; apply Fin.ext
  match a with
  | ⟨0, _⟩ => show win0_0.index t (0 : Fin 3) * 28 + 1 * k.val = k.val; omega
  | ⟨1, _⟩ => show win0_0.index t (1 : Fin 3) * 32 + 1 * r.val = 32 * (t.val % 8) + r.val; omega
  | ⟨2, _⟩ => show win0_0.index t (2 : Fin 3) * 2048 + 1 * q.val = (col t (nq q) (lq q)).val; rw [col_val]; omega

theorem emb1 (t : Fin cfg0.N) (k : Fin 28) (n : Fin 16) (R : Fin 256) :
    ((cfg0.win 1).blk t).view.emb (ix3 k n R) = ix3 k (grp t n) R := by
  obtain ⟨e0, e1, e2⟩ := idx1 t
  funext a; apply Fin.ext
  match a with
  | ⟨0, _⟩ => show win0_1.index t (0 : Fin 3) * 28 + 1 * k.val = k.val; omega
  | ⟨1, _⟩ => show win0_1.index t (1 : Fin 3) * 16 + 1 * n.val = 16 * (t.val / 8) + n.val; omega
  | ⟨2, _⟩ => show win0_1.index t (2 : Fin 3) * 256 + 1 * R.val = R.val; omega

theorem emb2 (t : Fin cfg0.N) (r : Fin 32) (q : Fin 2048) :
    ((cfg0.win 2).blk t).view.emb (ix2 r q) = ix2 (row t r) (col t (nq q) (lq q)) := by
  obtain ⟨e0, e1⟩ := idx2 t
  funext a; apply Fin.ext
  match a with
  | ⟨0, _⟩ => show win0_2.index t (0 : Fin 2) * 32 + 1 * r.val = 32 * (t.val % 8) + r.val; omega
  | ⟨1, _⟩ => show win0_2.index t (1 : Fin 2) * 2048 + 1 * q.val = (col t (nq q) (lq q)).val; rw [col_val]; omega

theorem emb3 (t : Fin cfg0.N) (r : Fin 32) (q : Fin 2048) :
    ((cfg0.win 3).blk t).view.emb (ix2 r q) = ix2 (row t r) (col t (nq q) (lq q)) := by
  obtain ⟨e0, e1⟩ := idx3 t
  funext a; apply Fin.ext
  match a with
  | ⟨0, _⟩ => show win0_3.index t (0 : Fin 2) * 32 + 1 * r.val = 32 * (t.val % 8) + r.val; omega
  | ⟨1, _⟩ => show win0_3.index t (1 : Fin 2) * 2048 + 1 * q.val = (col t (nq q) (lq q)).val; rw [col_val]; omega

theorem emb4 (t : Fin cfg0.N) (r : Fin 32) (q : Fin 2048) :
    ((cfg0.win 4).blk t).view.emb (ix2 r q) = ix2 (row t r) (col t (nq q) (lq q)) := by
  obtain ⟨e0, e1⟩ := idx4 t
  funext a; apply Fin.ext
  match a with
  | ⟨0, _⟩ => show win0_4.index t (0 : Fin 2) * 32 + 1 * r.val = 32 * (t.val % 8) + r.val; omega
  | ⟨1, _⟩ => show win0_4.index t (1 : Fin 2) * 2048 + 1 * q.val = (col t (nq q) (lq q)).val; rw [col_val]; omega

theorem emb5 (t : Fin cfg0.N) (r : Fin 32) (q : Fin 2048) :
    ((cfg0.win 5).blk t).view.emb (ix2 r q) = ix2 (row t r) (col t (nq q) (lq q)) := by
  obtain ⟨e0, e1⟩ := idx5 t
  funext a; apply Fin.ext
  match a with
  | ⟨0, _⟩ => show win0_5.index t (0 : Fin 2) * 32 + 1 * r.val = 32 * (t.val % 8) + r.val; omega
  | ⟨1, _⟩ => show win0_5.index t (1 : Fin 2) * 2048 + 1 * q.val = (col t (nq q) (lq q)).val; rw [col_val]; omega

theorem emb6 (t : Fin cfg0.N) (r : Fin 32) (q : Fin 2048) :
    ((cfg0.win 6).blk t).view.emb (ix2 r q) = ix2 (row t r) (col t (nq q) (lq q)) := by
  obtain ⟨e0, e1⟩ := idx6 t
  funext a; apply Fin.ext
  match a with
  | ⟨0, _⟩ => show win0_6.index t (0 : Fin 2) * 32 + 1 * r.val = 32 * (t.val % 8) + r.val; omega
  | ⟨1, _⟩ => show win0_6.index t (1 : Fin 2) * 2048 + 1 * q.val = (col t (nq q) (lq q)).val; rw [col_val]; omega

theorem emb7 (t : Fin cfg0.N) (r : Fin 32) (q : Fin 2048) :
    ((cfg0.win 7).blk t).view.emb (ix2 r q) = ix2 (row t r) (col t (nq q) (lq q)) := by
  obtain ⟨e0, e1⟩ := idx7 t
  funext a; apply Fin.ext
  match a with
  | ⟨0, _⟩ => show win0_7.index t (0 : Fin 2) * 32 + 1 * r.val = 32 * (t.val % 8) + r.val; omega
  | ⟨1, _⟩ => show win0_7.index t (1 : Fin 2) * 2048 + 1 * q.val = (col t (nq q) (lq q)).val; rw [col_val]; omega

theorem emb8 (t : Fin cfg0.N) (r : Fin 32) (q : Fin 2048) :
    ((cfg0.win 8).blk t).view.emb (ix2 r q) = ix2 (row t r) (col t (nq q) (lq q)) := by
  obtain ⟨e0, e1⟩ := idx8 t
  funext a; apply Fin.ext
  match a with
  | ⟨0, _⟩ => show win0_8.index t (0 : Fin 2) * 32 + 1 * r.val = 32 * (t.val % 8) + r.val; omega
  | ⟨1, _⟩ => show win0_8.index t (1 : Fin 2) * 2048 + 1 * q.val = (col t (nq q) (lq q)).val; rw [col_val]; omega

theorem emb9 (t : Fin cfg0.N) (r : Fin 32) (q : Fin 2048) :
    ((cfg0.win 9).blk t).view.emb (ix2 r q) = ix2 (row t r) (col t (nq q) (lq q)) := by
  obtain ⟨e0, e1⟩ := idx9 t
  funext a; apply Fin.ext
  match a with
  | ⟨0, _⟩ => show win0_9.index t (0 : Fin 2) * 32 + 1 * r.val = 32 * (t.val % 8) + r.val; omega
  | ⟨1, _⟩ => show win0_9.index t (1 : Fin 2) * 2048 + 1 * q.val = (col t (nq q) (lq q)).val; rw [col_val]; omega

theorem emb10 (t : Fin cfg0.N) (r : Fin 32) (q : Fin 2048) :
    ((cfg0.win 10).blk t).view.emb (ix2 r q) = ix2 (row t r) (col t (nq q) (lq q)) := by
  obtain ⟨e0, e1⟩ := idx10 t
  funext a; apply Fin.ext
  match a with
  | ⟨0, _⟩ => show win0_10.index t (0 : Fin 2) * 32 + 1 * r.val = 32 * (t.val % 8) + r.val; omega
  | ⟨1, _⟩ => show win0_10.index t (1 : Fin 2) * 2048 + 1 * q.val = (col t (nq q) (lq q)).val; rw [col_val]; omega

theorem emb11 (t : Fin cfg0.N) (r : Fin 32) (q : Fin 2048) :
    ((cfg0.win 11).blk t).view.emb (ix2 r q) = ix2 (row t r) (col t (nq q) (lq q)) := by
  obtain ⟨e0, e1⟩ := idx11 t
  funext a; apply Fin.ext
  match a with
  | ⟨0, _⟩ => show win0_11.index t (0 : Fin 2) * 32 + 1 * r.val = 32 * (t.val % 8) + r.val; omega
  | ⟨1, _⟩ => show win0_11.index t (1 : Fin 2) * 2048 + 1 * q.val = (col t (nq q) (lq q)).val; rw [col_val]; omega

theorem emb12 (t : Fin cfg0.N) (n : Fin 16) (R : Fin 256) :
    ((cfg0.win 12).blk t).view.emb (ix2 n R) = ix2 (grp t n) R := by
  obtain ⟨e0, e1⟩ := idx12 t
  funext a; apply Fin.ext
  match a with
  | ⟨0, _⟩ => show win0_12.index t (0 : Fin 2) * 16 + 1 * n.val = 16 * (t.val / 8) + n.val; omega
  | ⟨1, _⟩ => show win0_12.index t (1 : Fin 2) * 256 + 1 * R.val = R.val; omega

variable (m : (ℓ : Loc nD τ sig) → Buf (Elt Ideal) ℓ)

/-- The arguments as launched. -/
abbrev A0 (c : Dev nD) : Vec Ideal S28x256x14336 .fp8e5m2 := m ((c : Thread nD τ).loc main_arg0)
abbrev A1 (c : Dev nD) : Vec Ideal S28x256x112 .f32 := m ((c : Thread nD τ).loc main_arg1)
abbrev A2 (c : Dev nD) : Vec Ideal S256x14336 .bf16 := m ((c : Thread nD τ).loc main_arg2)
abbrev A3 (c : Dev nD) : Vec Ideal S256x14336 .bf16 := m ((c : Thread nD τ).loc main_arg3)
abbrev A4 (c : Dev nD) : Vec Ideal S256x14336 .f32 := m ((c : Thread nD τ).loc main_arg4)
abbrev A5 (c : Dev nD) : Vec Ideal S256x14336 .f32 := m ((c : Thread nD τ).loc main_arg5)

theorem V_main_v0 (c : Dev nD) : V m c main_v0 = transpose S28x112x256 [0, 2, 1] (A1 m c) transposes_S28x256x112_S28x112x256_0_2_1 := by
  show StableHlo.after [StableHlo.unary main_arg1 main_v0 _] _ (Proc.devRef .tc main_v0) = _
  after_results

theorem iblk0_at (c : Dev nD) (t : Fin cfg0.N) (k : Fin 28) (r : Fin 32) (q : Fin 2048) :
    (iblk m c 0 t : Vec Ideal S28x32x2048 .fp8e5m2) (ix3 k r q) = A0 m c (ix3 k (row t r) (col t (nq q) (lq q))) := by
  show V m c main_arg0 (((cfg0.win 0).blk t).view.emb (ix3 k r q)) = _
  rw [emb0, V_main_arg0]
theorem iblk1_at (c : Dev nD) (t : Fin cfg0.N) (k : Fin 28) (n : Fin 16) (R : Fin 256) :
    (iblk m c 1 t : Vec Ideal S28x16x256 .f32) (ix3 k n R) = A1 m c (ix3 k R (grp t n)) := by
  show V m c main_v0 (((cfg0.win 1).blk t).view.emb (ix3 k n R)) = _
  rw [emb1, V_main_v0]
  refine transpose_apply _ _ _ _ _ fun b => ?_
  match b with
  | ⟨0, _⟩ => rfl
  | ⟨1, _⟩ => rfl
  | ⟨2, _⟩ => rfl
theorem iblk2_at (c : Dev nD) (t : Fin cfg0.N) (r : Fin 32) (q : Fin 2048) :
    (iblk m c 2 t : Vec Ideal S32x2048 .bf16) (ix2 r q) = A2 m c (ix2 (row t r) (col t (nq q) (lq q))) := by
  show V m c main_arg2 (((cfg0.win 2).blk t).view.emb (ix2 r q)) = _
  rw [emb2, V_main_arg2]
theorem iblk3_at (c : Dev nD) (t : Fin cfg0.N) (r : Fin 32) (q : Fin 2048) :
    (iblk m c 3 t : Vec Ideal S32x2048 .bf16) (ix2 r q) = A3 m c (ix2 (row t r) (col t (nq q) (lq q))) := by
  show V m c main_arg3 (((cfg0.win 3).blk t).view.emb (ix2 r q)) = _
  rw [emb3, V_main_arg3]
theorem iblk4_at (c : Dev nD) (t : Fin cfg0.N) (r : Fin 32) (q : Fin 2048) :
    (iblk m c 4 t : Vec Ideal S32x2048 .f32) (ix2 r q) = A4 m c (ix2 (row t r) (col t (nq q) (lq q))) := by
  show V m c main_arg4 (((cfg0.win 4).blk t).view.emb (ix2 r q)) = _
  rw [emb4, V_main_arg4]
theorem iblk5_at (c : Dev nD) (t : Fin cfg0.N) (r : Fin 32) (q : Fin 2048) :
    (iblk m c 5 t : Vec Ideal S32x2048 .f32) (ix2 r q) = A5 m c (ix2 (row t r) (col t (nq q) (lq q))) := by
  show V m c main_arg5 (((cfg0.win 5).blk t).view.emb (ix2 r q)) = _
  rw [emb5, V_main_arg5]

end Cert.Own

end
-- ==== Proof.Ends.lean ====
/- What each grid point of the idealized kernel leaves, read at the arrays' own indices, and the arrays after the run. -/
module

public import proofs.«01_k».proof.Proof.Arr

@[expose] public section

set_option maxRecDepth 16384

noncomputable section

namespace Cert.Own

open Idealize.ShloMosaic Idealize.ShloMosaic.TcCoe
open Cert.KernelIdeal Cert.KernelIdeal.Gen
open Cert.OwnR (gsum Mat Vat Wat Uat Pat Bat Eat)
open Cert.ReferenceIdeal.Value (G6 G7 G8 G9 G10 G11 G12)

variable (m : (ℓ : Loc nD τ sig) → Buf (Elt Ideal) ℓ)

theorem ex_block (y : S32x2048.Idx) : ∃ (r : Fin 32) (q : Fin 2048), y = ix2 r q := ⟨y 0, y 1, eq_ix2 y⟩
theorem ex_whole (y : S256x14336.Idx) : ∃ (R : Fin 256) (C : Fin 14336), y = ix2 R C := ⟨y 0, y 1, eq_ix2 y⟩
theorem ex_sblock (y : S16x256.Idx) : ∃ (n : Fin 16) (R : Fin 256), y = ix2 n R := ⟨y 0, y 1, eq_ix2 y⟩
theorem ex_swhole (y : S112x256.Idx) : ∃ (n : Fin 112) (R : Fin 256), y = ix2 n R := ⟨y 0, y 1, eq_ix2 y⟩
theorem ex_scale (y : S256x112.Idx) : ∃ (R : Fin 256) (n : Fin 112), y = ix2 R n := ⟨y 0, y 1, eq_ix2 y⟩

theorem nq_mk (n : Fin 16) (l : Fin 128) (h : 128 * n.val + l.val < 2048) : nq ⟨128 * n.val + l.val, h⟩ = n :=
  Fin.ext (by show (128 * n.val + l.val) / 128 = n.val; omega)
theorem lq_mk (n : Fin 16) (l : Fin 128) (h : 128 * n.val + l.val < 2048) : lq ⟨128 * n.val + l.val, h⟩ = l :=
  Fin.ext (by show (128 * n.val + l.val) % 128 = l.val; omega)

/-- The weighted gradient sum of a point's blocks is the one of the whole arrays. -/
theorem gs_at (c : Dev nD) (t : Fin cfg0.N) (n : Fin 16) (r : Fin 32) (l : Fin 128) :
    gsT (F := Ideal) (grid0.coords t) (iblk m c 0 t) (iblk m c 1 t) n (ix2 r l) = gsum (A0 m c) (A1 m c) (row t r) (col t n l) := by
  rw [gsT_eq]
  unfold gsum
  refine Finset.sum_congr rfl fun k _ => ?_
  have er : ∀ h, (⟨32 * (grid0.coords t 1).val + r.val, h⟩ : Fin 256) = row t r := fun h =>
    Fin.ext (by show 32 * (grid0.coords t 1).val + r.val = 32 * (t.val % 8) + r.val; rw [coord1])
  have eg : ∀ h, (⟨(col t n l).val / 128, h⟩ : Fin 112) = grp t n := fun h =>
    Fin.ext (by show (128 * (grp t n).val + l.val) / 128 = (grp t n).val; omega)
  rw [iblk1_at, iblk0_at, nq_mk, lq_mk, er, eg]
  exact mul_comm (G := EReal) _ _

theorem blk2_at (c : Dev nD) (t : Fin cfg0.N) (n : Fin 16) (r : Fin 32) (l : Fin 128) :
    blk (iblk m c 2 t) n (ix2 r l) = A2 m c (ix2 (row t r) (col t n l)) := by
  rw [blk_eq, iblk2_at, nq_mk, lq_mk]
theorem blk3_at (c : Dev nD) (t : Fin cfg0.N) (n : Fin 16) (r : Fin 32) (l : Fin 128) :
    blk (iblk m c 3 t) n (ix2 r l) = A3 m c (ix2 (row t r) (col t n l)) := by
  rw [blk_eq, iblk3_at, nq_mk, lq_mk]
theorem blk4_at (c : Dev nD) (t : Fin cfg0.N) (n : Fin 16) (r : Fin 32) (l : Fin 128) :
    blk (iblk m c 4 t) n (ix2 r l) = A4 m c (ix2 (row t r) (col t n l)) := by
  rw [blk_eq, iblk4_at, nq_mk, lq_mk]
theorem blk5_at (c : Dev nD) (t : Fin cfg0.N) (n : Fin 16) (r : Fin 32) (l : Fin 128) :
    blk (iblk m c 5 t) n (ix2 r l) = A5 m c (ix2 (row t r) (col t n l)) := by
  rw [blk_eq, iblk5_at, nq_mk, lq_mk]

theorem m_at (c : Dev nD) (t : Fin cfg0.N) (n : Fin 16) (r : Fin 32) (l : Fin 128) :
    mF (F := Ideal) (gsT (grid0.coords t) (iblk m c 0 t) (iblk m c 1 t) n) (blk (iblk m c 4 t) n) (ix2 r l)
      = Mat (A0 m c) (A1 m c) (A4 m c) (row t r) (col t n l) := by
  rw [mF_eq, gs_at, blk4_at, g_eq]
  unfold Mat
  with_reducible rfl
theorem v_at (c : Dev nD) (t : Fin cfg0.N) (n : Fin 16) (r : Fin 32) (l : Fin 128) :
    vF (F := Ideal) (gsT (grid0.coords t) (iblk m c 0 t) (iblk m c 1 t) n) (blk (iblk m c 5 t) n) (ix2 r l)
      = Vat (A0 m c) (A1 m c) (A5 m c) (row t r) (col t n l) := by
  rw [vF_eq, gs_at, blk5_at, g_eq]
  unfold Vat
  with_reducible rfl
theorem u_at (c : Dev nD) (t : Fin cfg0.N) (n : Fin 16) (r : Fin 32) (l : Fin 128) :
    updF (F := Ideal) (gsT (grid0.coords t) (iblk m c 0 t) (iblk m c 1 t) n) (blk (iblk m c 4 t) n) (blk (iblk m c 5 t) n)
        (blk (iblk m c 2 t) n) (blk (iblk m c 3 t) n) (ix2 r l)
      = Uat (A0 m c) (A1 m c) (A2 m c) (A3 m c) (A4 m c) (A5 m c) (row t r) (col t n l) := by
  rw [updF_eq, gs_at, blk4_at, blk5_at, blk2_at, blk3_at, g_eq, u_eq]
  unfold Uat Mat Vat Wat
  with_reducible rfl
theorem p_at (c : Dev nD) (t : Fin cfg0.N) (n : Fin 16) (r : Fin 32) (l : Fin 128) :
    pT (F := Ideal) (grid0.coords t) (iblk m c 0 t) (iblk m c 1 t) (iblk m c 2 t) (iblk m c 3 t) (iblk m c 4 t) (iblk m c 5 t) n (ix2 r l) = Pat (A0 m c) (A1 m c) (A2 m c) (A3 m c) (A4 m c) (A5 m c) (row t r) (col t n l) := by
  show pF (gsT (grid0.coords t) (iblk m c 0 t) (iblk m c 1 t) n) (blk (iblk m c 4 t) n) (blk (iblk m c 5 t) n)
        (blk (iblk m c 2 t) n) (blk (iblk m c 3 t) n) (ix2 r l) = _
  rw [pF_eq, gs_at, blk4_at, blk5_at, blk2_at, blk3_at, g_eq, u_eq]
  unfold Pat Uat Mat Vat Wat
  with_reducible rfl

theorem p_row (c : Dev nD) (t : Fin cfg0.N) (n : Fin 16) (r : Fin 32) :
    (fun l => pT (F := Ideal) (grid0.coords t) (iblk m c 0 t) (iblk m c 1 t) (iblk m c 2 t) (iblk m c 3 t) (iblk m c 4 t) (iblk m c 5 t) n (ix2 r l)) = Bat (A0 m c) (A1 m c) (A2 m c) (A3 m c) (A4 m c) (A5 m c) (row t r) (grp t n) :=
  funext fun l => p_at m c t n r l

/-- Every new parameter of device `c` is a moderate real number. -/
def Moderate (c : Dev nD) : Prop := ∀ R C, ∃ q : ℝ, Pat (A0 m c) (A1 m c) (A2 m c) (A3 m c) (A4 m c) (A5 m c) R C = (q : EReal) ∧ |q| ≤ 2 ^ 103

theorem scale_at (c : Dev nD) (hq : Moderate m c) (t : Fin cfg0.N) (n : Fin 16) (r : Fin 32) :
    scaleF (pT (F := Ideal) (grid0.coords t) (iblk m c 0 t) (iblk m c 1 t) (iblk m c 2 t) (iblk m c 3 t) (iblk m c 4 t) (iblk m c 5 t) n) (ix2 r (0 : Fin 1)) = Ideal.exp2 (Eat (A0 m c) (A1 m c) (A2 m c) (A3 m c) (A4 m c) (A5 m c) (row t r) (grp t n)) := by
  rw [scaleF_eq, p_row]
  exact (quant_eq (Bat (A0 m c) (A1 m c) (A2 m c) (A3 m c) (A4 m c) (A5 m c) (row t r) (grp t n)) fun l => hq _ _).1
theorem codes_at (c : Dev nD) (hq : Moderate m c) (t : Fin cfg0.N) (n : Fin 16) (r : Fin 32) (l : Fin 128) :
    codesF (pT (F := Ideal) (grid0.coords t) (iblk m c 0 t) (iblk m c 1 t) (iblk m c 2 t) (iblk m c 3 t) (iblk m c 4 t) (iblk m c 5 t) n) (ix2 r l) = min (Ideal.ofBits .f32 0x43E00000#32) (max (Ideal.ofBits .f32 0xC3E00000#32)
      (Bat (A0 m c) (A1 m c) (A2 m c) (A3 m c) (A4 m c) (A5 m c) (row t r) (grp t n) l * Ideal.exp2 (Ideal.ofBits .f32 0x00000000#32 - Eat (A0 m c) (A1 m c) (A2 m c) (A3 m c) (A4 m c) (A5 m c) (row t r) (grp t n)))) := by
  have h := (quant_eq (Bat (A0 m c) (A1 m c) (A2 m c) (A3 m c) (A4 m c) (A5 m c) (row t r) (grp t n)) fun l => hq _ _).2
  rw [codesF_eq, p_row, h, p_at]
  unfold Eat Bat col
  with_reducible rfl

/-- The point whose blocks hold an index of the arrays, and the index in the block. -/
def at1 (R : Fin 256) (C : Fin 14336) : Fin cfg0.N := ⟨8 * (C.val / 2048) + R.val / 32, by rw [N_56]; omega⟩
theorem row_at1 (R : Fin 256) (C : Fin 14336) : row (at1 R C) ⟨R.val % 32, Nat.mod_lt _ (by decide)⟩ = R :=
  Fin.ext (by show 32 * ((8 * (C.val / 2048) + R.val / 32) % 8) + R.val % 32 = R.val; omega)
theorem col_at1 (R : Fin 256) (C : Fin 14336) : col (at1 R C) (nq ⟨C.val % 2048, Nat.mod_lt _ (by decide)⟩) (lq ⟨C.val % 2048, Nat.mod_lt _ (by decide)⟩) = C := by
  apply Fin.ext
  rw [col_val]
  show 2048 * ((8 * (C.val / 2048) + R.val / 32) / 8) + C.val % 2048 = C.val
  omega

theorem left6 (c : Dev nD) (t : Fin cfg0.N) (r : Fin 32) (q : Fin 2048) :
    hiW (F := Ideal) (grid0.coords t) (iblk m c 0 t) (iblk m c 1 t) (iblk m c 2 t) (iblk m c 3 t) (iblk m c 4 t) (iblk m c 5 t) (ix2 r q)
      = G6 (F := Ideal) (A0 m c) (A1 m c) (A2 m c) (A3 m c) (A4 m c) (A5 m c) (ix2 (row t r) (col t (nq q) (lq q))) := by
  show hiF (pT (grid0.coords t) (iblk m c 0 t) (iblk m c 1 t) (iblk m c 2 t) (iblk m c 3 t) (iblk m c 4 t) (iblk m c 5 t) (nq q)) (ix2 r (lq q)) = _
  rw [hiF_eq, p_at, Cert.OwnR.G6_eq]
theorem flushed6 (c : Dev nD) (t : Fin cfg0.N) :
    (dats m 0 c).flushed 6 t = ((cfg0.win 6).blk t).view.read (Elt Ideal) (G6 (F := Ideal) (A0 m c) (A1 m c) (A2 m c) (A3 m c) (A4 m c) (A5 m c)) := by
  show (cfg0.win 6).cut (grid0.coords t) ((dats m 0 c).after 6 t) = _
  rw [after0_6]
  have h : ∀ y : S32x2048.Idx, hiW (F := Ideal) (grid0.coords t) (iblk m c 0 t) (iblk m c 1 t) (iblk m c 2 t) (iblk m c 3 t) (iblk m c 4 t) (iblk m c 5 t) y
      = G6 (F := Ideal) (A0 m c) (A1 m c) (A2 m c) (A3 m c) (A4 m c) (A5 m c) (((cfg0.win 6).blk t).view.emb y) := by
    intro y
    obtain ⟨r, q, rfl⟩ := ex_block y
    refine (left6 m c t r q).trans ?_
    exact congrArg (G6 (F := Ideal) (A0 m c) (A1 m c) (A2 m c) (A3 m c) (A4 m c) (A5 m c)) (emb6 t r q).symm
  exact funext fun y => h y
theorem cover6 (i : S256x14336.Idx) : ∃ t : Fin cfg0.N, (cfg0.win 6).flush t = true ∧ i ∈ ((cfg0.win 6).blk t).view.set := by
  obtain ⟨R, C, rfl⟩ := ex_whole i
  refine ⟨at1 R C, flush0_6 _, ?_⟩
  have h := ((cfg0.win 6).blk (at1 R C)).view.emb_mem_set (ix2 ⟨R.val % 32, Nat.mod_lt _ (by decide)⟩ ⟨C.val % 2048, Nat.mod_lt _ (by decide)⟩ : S32x2048.Idx)
  have e := (emb6 (at1 R C) ⟨R.val % 32, Nat.mod_lt _ (by decide)⟩ ⟨C.val % 2048, Nat.mod_lt _ (by decide)⟩).trans
    (congrArg₂ ix2 (row_at1 R C) (col_at1 R C))
  exact (congrArg (· ∈ ((cfg0.win 6).blk (at1 R C)).view.set) e).mp h
theorem final6 (c : Dev nD) : (dats m 0 c).arrAt 6 cfg0.N = G6 (F := Ideal) (A0 m c) (A1 m c) (A2 m c) (A3 m c) (A4 m c) (A5 m c) :=
  (dats m 0 c).arrAt_eq_of_cover 6 _ (fun t _ => flushed6 m c t) cover6

theorem left7 (c : Dev nD) (t : Fin cfg0.N) (r : Fin 32) (q : Fin 2048) :
    loW (F := Ideal) (grid0.coords t) (iblk m c 0 t) (iblk m c 1 t) (iblk m c 2 t) (iblk m c 3 t) (iblk m c 4 t) (iblk m c 5 t) (ix2 r q)
      = G7 (F := Ideal) (A0 m c) (A1 m c) (A2 m c) (A3 m c) (A4 m c) (A5 m c) (ix2 (row t r) (col t (nq q) (lq q))) := by
  show loF (pT (grid0.coords t) (iblk m c 0 t) (iblk m c 1 t) (iblk m c 2 t) (iblk m c 3 t) (iblk m c 4 t) (iblk m c 5 t) (nq q)) (ix2 r (lq q)) = _
  rw [loF_eq, p_at, Cert.OwnR.G7_eq]
theorem flushed7 (c : Dev nD) (t : Fin cfg0.N) :
    (dats m 0 c).flushed 7 t = ((cfg0.win 7).blk t).view.read (Elt Ideal) (G7 (F := Ideal) (A0 m c) (A1 m c) (A2 m c) (A3 m c) (A4 m c) (A5 m c)) := by
  show (cfg0.win 7).cut (grid0.coords t) ((dats m 0 c).after 7 t) = _
  rw [after0_7]
  have h : ∀ y : S32x2048.Idx, loW (F := Ideal) (grid0.coords t) (iblk m c 0 t) (iblk m c 1 t) (iblk m c 2 t) (iblk m c 3 t) (iblk m c 4 t) (iblk m c 5 t) y
      = G7 (F := Ideal) (A0 m c) (A1 m c) (A2 m c) (A3 m c) (A4 m c) (A5 m c) (((cfg0.win 7).blk t).view.emb y) := by
    intro y
    obtain ⟨r, q, rfl⟩ := ex_block y
    refine (left7 m c t r q).trans ?_
    exact congrArg (G7 (F := Ideal) (A0 m c) (A1 m c) (A2 m c) (A3 m c) (A4 m c) (A5 m c)) (emb7 t r q).symm
  exact funext fun y => h y
theorem cover7 (i : S256x14336.Idx) : ∃ t : Fin cfg0.N, (cfg0.win 7).flush t = true ∧ i ∈ ((cfg0.win 7).blk t).view.set := by
  obtain ⟨R, C, rfl⟩ := ex_whole i
  refine ⟨at1 R C, flush0_7 _, ?_⟩
  have h := ((cfg0.win 7).blk (at1 R C)).view.emb_mem_set (ix2 ⟨R.val % 32, Nat.mod_lt _ (by decide)⟩ ⟨C.val % 2048, Nat.mod_lt _ (by decide)⟩ : S32x2048.Idx)
  have e := (emb7 (at1 R C) ⟨R.val % 32, Nat.mod_lt _ (by decide)⟩ ⟨C.val % 2048, Nat.mod_lt _ (by decide)⟩).trans
    (congrArg₂ ix2 (row_at1 R C) (col_at1 R C))
  exact (congrArg (· ∈ ((cfg0.win 7).blk (at1 R C)).view.set) e).mp h
theorem final7 (c : Dev nD) : (dats m 0 c).arrAt 7 cfg0.N = G7 (F := Ideal) (A0 m c) (A1 m c) (A2 m c) (A3 m c) (A4 m c) (A5 m c) :=
  (dats m 0 c).arrAt_eq_of_cover 7 _ (fun t _ => flushed7 m c t) cover7

theorem left8 (c : Dev nD) (t : Fin cfg0.N) (r : Fin 32) (q : Fin 2048) :
    mW (F := Ideal) (grid0.coords t) (iblk m c 0 t) (iblk m c 1 t) (iblk m c 2 t) (iblk m c 3 t) (iblk m c 4 t) (iblk m c 5 t) (ix2 r q)
      = G8 (F := Ideal) (A0 m c) (A1 m c) (A2 m c) (A3 m c) (A4 m c) (A5 m c) (ix2 (row t r) (col t (nq q) (lq q))) := by
  rw [Cert.OwnR.G8_eq]
  exact m_at m c t (nq q) r (lq q)
theorem flushed8 (c : Dev nD) (t : Fin cfg0.N) :
    (dats m 0 c).flushed 8 t = ((cfg0.win 8).blk t).view.read (Elt Ideal) (G8 (F := Ideal) (A0 m c) (A1 m c) (A2 m c) (A3 m c) (A4 m c) (A5 m c)) := by
  show (cfg0.win 8).cut (grid0.coords t) ((dats m 0 c).after 8 t) = _
  rw [after0_8]
  have h : ∀ y : S32x2048.Idx, mW (F := Ideal) (grid0.coords t) (iblk m c 0 t) (iblk m c 1 t) (iblk m c 2 t) (iblk m c 3 t) (iblk m c 4 t) (iblk m c 5 t) y
      = G8 (F := Ideal) (A0 m c) (A1 m c) (A2 m c) (A3 m c) (A4 m c) (A5 m c) (((cfg0.win 8).blk t).view.emb y) := by
    intro y
    obtain ⟨r, q, rfl⟩ := ex_block y
    refine (left8 m c t r q).trans ?_
    exact congrArg (G8 (F := Ideal) (A0 m c) (A1 m c) (A2 m c) (A3 m c) (A4 m c) (A5 m c)) (emb8 t r q).symm
  exact funext fun y => h y
theorem cover8 (i : S256x14336.Idx) : ∃ t : Fin cfg0.N, (cfg0.win 8).flush t = true ∧ i ∈ ((cfg0.win 8).blk t).view.set := by
  obtain ⟨R, C, rfl⟩ := ex_whole i
  refine ⟨at1 R C, flush0_8 _, ?_⟩
  have h := ((cfg0.win 8).blk (at1 R C)).view.emb_mem_set (ix2 ⟨R.val % 32, Nat.mod_lt _ (by decide)⟩ ⟨C.val % 2048, Nat.mod_lt _ (by decide)⟩ : S32x2048.Idx)
  have e := (emb8 (at1 R C) ⟨R.val % 32, Nat.mod_lt _ (by decide)⟩ ⟨C.val % 2048, Nat.mod_lt _ (by decide)⟩).trans
    (congrArg₂ ix2 (row_at1 R C) (col_at1 R C))
  exact (congrArg (· ∈ ((cfg0.win 8).blk (at1 R C)).view.set) e).mp h
theorem final8 (c : Dev nD) : (dats m 0 c).arrAt 8 cfg0.N = G8 (F := Ideal) (A0 m c) (A1 m c) (A2 m c) (A3 m c) (A4 m c) (A5 m c) :=
  (dats m 0 c).arrAt_eq_of_cover 8 _ (fun t _ => flushed8 m c t) cover8

theorem left9 (c : Dev nD) (t : Fin cfg0.N) (r : Fin 32) (q : Fin 2048) :
    vW (F := Ideal) (grid0.coords t) (iblk m c 0 t) (iblk m c 1 t) (iblk m c 2 t) (iblk m c 3 t) (iblk m c 4 t) (iblk m c 5 t) (ix2 r q)
      = G9 (F := Ideal) (A0 m c) (A1 m c) (A2 m c) (A3 m c) (A4 m c) (A5 m c) (ix2 (row t r) (col t (nq q) (lq q))) := by
  rw [Cert.OwnR.G9_eq]
  exact v_at m c t (nq q) r (lq q)
theorem flushed9 (c : Dev nD) (t : Fin cfg0.N) :
    (dats m 0 c).flushed 9 t = ((cfg0.win 9).blk t).view.read (Elt Ideal) (G9 (F := Ideal) (A0 m c) (A1 m c) (A2 m c) (A3 m c) (A4 m c) (A5 m c)) := by
  show (cfg0.win 9).cut (grid0.coords t) ((dats m 0 c).after 9 t) = _
  rw [after0_9]
  have h : ∀ y : S32x2048.Idx, vW (F := Ideal) (grid0.coords t) (iblk m c 0 t) (iblk m c 1 t) (iblk m c 2 t) (iblk m c 3 t) (iblk m c 4 t) (iblk m c 5 t) y
      = G9 (F := Ideal) (A0 m c) (A1 m c) (A2 m c) (A3 m c) (A4 m c) (A5 m c) (((cfg0.win 9).blk t).view.emb y) := by
    intro y
    obtain ⟨r, q, rfl⟩ := ex_block y
    refine (left9 m c t r q).trans ?_
    exact congrArg (G9 (F := Ideal) (A0 m c) (A1 m c) (A2 m c) (A3 m c) (A4 m c) (A5 m c)) (emb9 t r q).symm
  exact funext fun y => h y
theorem cover9 (i : S256x14336.Idx) : ∃ t : Fin cfg0.N, (cfg0.win 9).flush t = true ∧ i ∈ ((cfg0.win 9).blk t).view.set := by
  obtain ⟨R, C, rfl⟩ := ex_whole i
  refine ⟨at1 R C, flush0_9 _, ?_⟩
  have h := ((cfg0.win 9).blk (at1 R C)).view.emb_mem_set (ix2 ⟨R.val % 32, Nat.mod_lt _ (by decide)⟩ ⟨C.val % 2048, Nat.mod_lt _ (by decide)⟩ : S32x2048.Idx)
  have e := (emb9 (at1 R C) ⟨R.val % 32, Nat.mod_lt _ (by decide)⟩ ⟨C.val % 2048, Nat.mod_lt _ (by decide)⟩).trans
    (congrArg₂ ix2 (row_at1 R C) (col_at1 R C))
  exact (congrArg (· ∈ ((cfg0.win 9).blk (at1 R C)).view.set) e).mp h
theorem final9 (c : Dev nD) : (dats m 0 c).arrAt 9 cfg0.N = G9 (F := Ideal) (A0 m c) (A1 m c) (A2 m c) (A3 m c) (A4 m c) (A5 m c) :=
  (dats m 0 c).arrAt_eq_of_cover 9 _ (fun t _ => flushed9 m c t) cover9

theorem left10 (c : Dev nD) (t : Fin cfg0.N) (r : Fin 32) (q : Fin 2048) :
    updW (F := Ideal) (grid0.coords t) (iblk m c 0 t) (iblk m c 1 t) (iblk m c 2 t) (iblk m c 3 t) (iblk m c 4 t) (iblk m c 5 t) (ix2 r q)
      = G10 (F := Ideal) (A0 m c) (A1 m c) (A2 m c) (A3 m c) (A4 m c) (A5 m c) (ix2 (row t r) (col t (nq q) (lq q))) := by
  rw [Cert.OwnR.G10_eq]
  exact u_at m c t (nq q) r (lq q)
theorem flushed10 (c : Dev nD) (t : Fin cfg0.N) :
    (dats m 0 c).flushed 10 t = ((cfg0.win 10).blk t).view.read (Elt Ideal) (G10 (F := Ideal) (A0 m c) (A1 m c) (A2 m c) (A3 m c) (A4 m c) (A5 m c)) := by
  show (cfg0.win 10).cut (grid0.coords t) ((dats m 0 c).after 10 t) = _
  rw [after0_10]
  have h : ∀ y : S32x2048.Idx, updW (F := Ideal) (grid0.coords t) (iblk m c 0 t) (iblk m c 1 t) (iblk m c 2 t) (iblk m c 3 t) (iblk m c 4 t) (iblk m c 5 t) y
      = G10 (F := Ideal) (A0 m c) (A1 m c) (A2 m c) (A3 m c) (A4 m c) (A5 m c) (((cfg0.win 10).blk t).view.emb y) := by
    intro y
    obtain ⟨r, q, rfl⟩ := ex_block y
    refine (left10 m c t r q).trans ?_
    exact congrArg (G10 (F := Ideal) (A0 m c) (A1 m c) (A2 m c) (A3 m c) (A4 m c) (A5 m c)) (emb10 t r q).symm
  exact funext fun y => h y
theorem cover10 (i : S256x14336.Idx) : ∃ t : Fin cfg0.N, (cfg0.win 10).flush t = true ∧ i ∈ ((cfg0.win 10).blk t).view.set := by
  obtain ⟨R, C, rfl⟩ := ex_whole i
  refine ⟨at1 R C, flush0_10 _, ?_⟩
  have h := ((cfg0.win 10).blk (at1 R C)).view.emb_mem_set (ix2 ⟨R.val % 32, Nat.mod_lt _ (by decide)⟩ ⟨C.val % 2048, Nat.mod_lt _ (by decide)⟩ : S32x2048.Idx)
  have e := (emb10 (at1 R C) ⟨R.val % 32, Nat.mod_lt _ (by decide)⟩ ⟨C.val % 2048, Nat.mod_lt _ (by decide)⟩).trans
    (congrArg₂ ix2 (row_at1 R C) (col_at1 R C))
  exact (congrArg (· ∈ ((cfg0.win 10).blk (at1 R C)).view.set) e).mp h
theorem final10 (c : Dev nD) : (dats m 0 c).arrAt 10 cfg0.N = G10 (F := Ideal) (A0 m c) (A1 m c) (A2 m c) (A3 m c) (A4 m c) (A5 m c) :=
  (dats m 0 c).arrAt_eq_of_cover 10 _ (fun t _ => flushed10 m c t) cover10

theorem left11 (c : Dev nD) (hq : Moderate m c) (t : Fin cfg0.N) (r : Fin 32) (q : Fin 2048) :
    codesW (F := Ideal) (grid0.coords t) (iblk m c 0 t) (iblk m c 1 t) (iblk m c 2 t) (iblk m c 3 t) (iblk m c 4 t) (iblk m c 5 t) (ix2 r q)
      = G11 (F := Ideal) (A0 m c) (A1 m c) (A2 m c) (A3 m c) (A4 m c) (A5 m c) (ix2 (row t r) (col t (nq q) (lq q))) := by
  show codesF (pT (grid0.coords t) (iblk m c 0 t) (iblk m c 1 t) (iblk m c 2 t) (iblk m c 3 t) (iblk m c 4 t) (iblk m c 5 t) (nq q)) (ix2 r (lq q)) = _
  rw [codes_at m c hq]
  exact (Cert.OwnR.G11_eq (A0 m c) (A1 m c) (A2 m c) (A3 m c) (A4 m c) (A5 m c) (row t r) (grp t (nq q)) (lq q)).symm
theorem flushed11 (c : Dev nD) (hq : Moderate m c) (t : Fin cfg0.N) :
    (dats m 0 c).flushed 11 t = ((cfg0.win 11).blk t).view.read (Elt Ideal) (G11 (F := Ideal) (A0 m c) (A1 m c) (A2 m c) (A3 m c) (A4 m c) (A5 m c)) := by
  show (cfg0.win 11).cut (grid0.coords t) ((dats m 0 c).after 11 t) = _
  rw [after0_11]
  have h : ∀ y : S32x2048.Idx, codesW (F := Ideal) (grid0.coords t) (iblk m c 0 t) (iblk m c 1 t) (iblk m c 2 t) (iblk m c 3 t) (iblk m c 4 t) (iblk m c 5 t) y
      = G11 (F := Ideal) (A0 m c) (A1 m c) (A2 m c) (A3 m c) (A4 m c) (A5 m c) (((cfg0.win 11).blk t).view.emb y) := by
    intro y
    obtain ⟨r, q, rfl⟩ := ex_block y
    refine (left11 m c hq t r q).trans ?_
    exact congrArg (G11 (F := Ideal) (A0 m c) (A1 m c) (A2 m c) (A3 m c) (A4 m c) (A5 m c)) (emb11 t r q).symm
  exact funext fun y => h y
theorem cover11 (i : S256x14336.Idx) : ∃ t : Fin cfg0.N, (cfg0.win 11).flush t = true ∧ i ∈ ((cfg0.win 11).blk t).view.set := by
  obtain ⟨R, C, rfl⟩ := ex_whole i
  refine ⟨at1 R C, flush0_11 _, ?_⟩
  have h := ((cfg0.win 11).blk (at1 R C)).view.emb_mem_set (ix2 ⟨R.val % 32, Nat.mod_lt _ (by decide)⟩ ⟨C.val % 2048, Nat.mod_lt _ (by decide)⟩ : S32x2048.Idx)
  have e := (emb11 (at1 R C) ⟨R.val % 32, Nat.mod_lt _ (by decide)⟩ ⟨C.val % 2048, Nat.mod_lt _ (by decide)⟩).trans
    (congrArg₂ ix2 (row_at1 R C) (col_at1 R C))
  exact (congrArg (· ∈ ((cfg0.win 11).blk (at1 R C)).view.set) e).mp h
theorem final11 (c : Dev nD) (hq : Moderate m c) : (dats m 0 c).arrAt 11 cfg0.N = G11 (F := Ideal) (A0 m c) (A1 m c) (A2 m c) (A3 m c) (A4 m c) (A5 m c) :=
  (dats m 0 c).arrAt_eq_of_cover 11 _ (fun t _ => flushed11 m c hq t) cover11

/-- The scales, one row per column group. -/
def scales (c : Dev nD) : Vec Ideal S112x256 .f32 := fun j => Ideal.exp2 (Eat (A0 m c) (A1 m c) (A2 m c) (A3 m c) (A4 m c) (A5 m c) (j 1) (j 0))

theorem pay2_at (v : Vec Ideal S256x128 .f32) (n : Fin 16) (R : Fin 256) : k0_pay2 (F := Ideal) v (ix2 n R) = v (ix2 R ⟨n.val, by omega⟩) := by
  unfold k0_pay2
  show transpose S128x256 [1, 0] v transposes_S256x128_p1_0_S128x256 _ = _
  refine transpose_apply _ _ _ _ _ fun b => ?_
  match b with
  | ⟨0, _⟩ => show n.val = 0 + n.val; omega
  | ⟨1, _⟩ => show R.val = 0 + R.val; omega

theorem scr_at (c : Dev nD) (hq : Moderate m c) (t : Fin cfg0.N) (n : Fin 16) (R : Fin 256) :
    scr m c (t.val / 8) (ix2 R ⟨n.val, by omega⟩) = Ideal.exp2 (Eat (A0 m c) (A1 m c) (A2 m c) (A3 m c) (A4 m c) (A5 m c) R (grp t n)) := by
  have ht := lt56 t
  have hv : (pt (8 * (t.val / 8) + R.val / 32)).val = 8 * (t.val / 8) + R.val / 32 := by
    show (8 * (t.val / 8) + R.val / 32) % 56 = _
    omega
  have e0 : scr m c (t.val / 8) (ix2 R ⟨n.val, by omega⟩)
      = psAt m c (pt (8 * (t.val / 8) + R.val / 32)) (ix2 ⟨R.val % 32, Nat.mod_lt _ (by decide)⟩ ⟨n.val, by omega⟩) := rfl
  rw [e0]
  unfold psAt psT
  refine (psB_eq _ ⟨R.val % 32, Nat.mod_lt _ (by decide)⟩ n).trans ((scale_at m c hq _ n _).trans ?_)
  have e1 : row (pt (8 * (t.val / 8) + R.val / 32)) ⟨R.val % 32, Nat.mod_lt _ (by decide)⟩ = R :=
    Fin.ext (by show 32 * ((pt (8 * (t.val / 8) + R.val / 32)).val % 8) + R.val % 32 = R.val; rw [hv]; omega)
  have e2 : grp (pt (8 * (t.val / 8) + R.val / 32)) n = grp t n :=
    Fin.ext (by show 16 * ((pt (8 * (t.val / 8) + R.val / 32)).val / 8) + n.val = 16 * (t.val / 8) + n.val; rw [hv]; omega)
  rw [e1, e2]

theorem flushed12 (c : Dev nD) (hq : Moderate m c) (t : Fin cfg0.N) :
    (dats m 0 c).flushed 12 t = ((cfg0.win 12).blk t).view.read (Elt Ideal) (scales m c) := by
  show (cfg0.win 12).cut (grid0.coords t) ((dats m 0 c).after 12 t) = _
  rw [after0_12]
  have h : ∀ y : S16x256.Idx, k0_pay2 (F := Ideal) (scr m c (t.val / 8)) y = scales m c (((cfg0.win 12).blk t).view.emb y) := by
    intro y
    obtain ⟨n, R, rfl⟩ := ex_sblock y
    refine (pay2_at _ n R).trans ((scr_at m c hq t n R).trans ?_)
    exact (congrArg (scales m c) (emb12 t n R)).symm
  exact funext fun y => h y
theorem cover12 (i : S112x256.Idx) : ∃ t : Fin cfg0.N, (cfg0.win 12).flush t = true ∧ i ∈ ((cfg0.win 12).blk t).view.set := by
  obtain ⟨b, R, rfl⟩ := ex_swhole i
  have hb : 8 * (b.val / 16) + 7 < cfg0.N := by rw [N_56]; omega
  refine ⟨⟨8 * (b.val / 16) + 7, hb⟩, (Cert.KernelIdeal.Gen.flush0_12 _).mpr (by show (8 * (b.val / 16) + 7) % 8 = 7; omega), ?_⟩
  have h := ((cfg0.win 12).blk (⟨8 * (b.val / 16) + 7, hb⟩ : Fin cfg0.N)).view.emb_mem_set (ix2 ⟨b.val % 16, Nat.mod_lt _ (by decide)⟩ R : S16x256.Idx)
  have e : grp (⟨8 * (b.val / 16) + 7, hb⟩ : Fin cfg0.N) ⟨b.val % 16, Nat.mod_lt _ (by decide)⟩ = b :=
    Fin.ext (by show 16 * ((8 * (b.val / 16) + 7) / 8) + b.val % 16 = b.val; omega)
  have e' := (emb12 ⟨8 * (b.val / 16) + 7, hb⟩ ⟨b.val % 16, Nat.mod_lt _ (by decide)⟩ R).trans (congrArg (ix2 · R) e)
  exact (congrArg (· ∈ ((cfg0.win 12).blk (⟨8 * (b.val / 16) + 7, hb⟩ : Fin cfg0.N)).view.set) e').mp h
theorem final12 (c : Dev nD) (hq : Moderate m c) : (dats m 0 c).arrAt 12 cfg0.N = scales m c :=
  (dats m 0 c).arrAt_eq_of_cover 12 _ (fun t _ => flushed12 m c hq t) cover12

/-- The scales after the transposition that follows the region. -/
theorem scales_T (c : Dev nD) : transpose S256x112 [1, 0] (scales m c) transposes_S112x256_S256x112_1_0 = G12 (F := Ideal) (A0 m c) (A1 m c) (A2 m c) (A3 m c) (A4 m c) (A5 m c) := by
  funext j
  obtain ⟨R, n, rfl⟩ := ex_scale j
  rw [Cert.OwnR.G12_eq]
  refine (transpose_apply _ _ _ _ (ix2 n R) fun b => ?_).trans rfl
  match b with
  | ⟨0, _⟩ => rfl
  | ⟨1, _⟩ => rfl

theorem tail_v2 (c : Dev nD) (hq : Moderate m c) :
    Pipeline.afterTail₀ cfgs (dats m) 0 (V0 m) [hostOps1] c main_v2 = G12 (F := Ideal) (A0 m c) (A1 m c) (A2 m c) (A3 m c) (A4 m c) (A5 m c) := by
  rw [← scales_T, ← final12 m c hq]
  unfold Pipeline.afterTail₀
  have h := Pipeline.withArrays_arr spec0 launch0.win.arr_inj c (V0 m c) (fun w => (dats m 0 c).arrAt w cfg0.N) 12
  refine Eq.trans ?_ (congrArg (transpose S256x112 [1, 0] · transposes_S112x256_S256x112_1_0) h)
  simp only [hostOps1, List.flatten_cons, List.flatten_nil, List.append_nil]
  after_results

/-- The run of the idealized kernel: its seven results are the reference's functions of its arguments. -/
theorem run (ρ : Dev nD → PrngReg) (hq : ∀ c, Moderate m c) :
    θ_run defs (onTc (τ := τ) (main (F := Ideal))) ⟨m, fun _ => 0, ρ⟩ (fun r => ∀ c : Dev nD,
      r.2.mem ((c.tc : Thread nD τ).loc main_v1_0) = G6 (F := Ideal) (A0 m c) (A1 m c) (A2 m c) (A3 m c) (A4 m c) (A5 m c)
      ∧ r.2.mem ((c.tc : Thread nD τ).loc main_v1_1) = G7 (F := Ideal) (A0 m c) (A1 m c) (A2 m c) (A3 m c) (A4 m c) (A5 m c)
      ∧ r.2.mem ((c.tc : Thread nD τ).loc main_v1_2) = G8 (F := Ideal) (A0 m c) (A1 m c) (A2 m c) (A3 m c) (A4 m c) (A5 m c)
      ∧ r.2.mem ((c.tc : Thread nD τ).loc main_v1_3) = G9 (F := Ideal) (A0 m c) (A1 m c) (A2 m c) (A3 m c) (A4 m c) (A5 m c)
      ∧ r.2.mem ((c.tc : Thread nD τ).loc main_v1_4) = G10 (F := Ideal) (A0 m c) (A1 m c) (A2 m c) (A3 m c) (A4 m c) (A5 m c)
      ∧ r.2.mem ((c.tc : Thread nD τ).loc main_v1_5) = G11 (F := Ideal) (A0 m c) (A1 m c) (A2 m c) (A3 m c) (A4 m c) (A5 m c)
      ∧ r.2.mem ((c.tc : Thread nD τ).loc main_v2) = G12 (F := Ideal) (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1.1 c).1 6).trans (final6 m c), ((h.1.1 c).1 7).trans (final7 m c), ((h.1.1 c).1 8).trans (final8 m c),
      ((h.1.1 c).1 9).trans (final9 m c), ((h.1.1 c).1 10).trans (final10 m c), ((h.1.1 c).1 11).trans (final11 m c (hq c)),
      ((h.1.1 c).2 main_v2 (Pipeline.mem_restRefs_of main_v2 (by decide) (by decide))).trans (tail_v2 m c (hq c)), h.2.1 c⟩)
    (θ_run_and (run_main_quiescent m ρ) (frame m ρ))

end Cert.Own

end
-- ==== Proof.PreV.lean ====
/- What the precondition says of the arguments' elements, and the bound on the new parameters that follows. -/
module

public import proofs.«01_k».proof.Proof.Gen.Pre_moderate
public import proofs.«01_k».proof.Proof.RefG

@[expose] public section

set_option maxRecDepth 16384

noncomputable section

namespace Cert.OwnP

open Idealize.ShloMosaic
open Cert.Pre_moderate
open Cert.Own (kM kV rG rR rU p_bound)
open Cert.OwnR (Pat Mat Vat Wat Uat gsum)

theorem le_gen (x : FVec Ideal S256x14336 .f32) (b : BitVec 32) (i : S256x14336.Idx) :
    cmpf .ole (Host.absf x) (broadcastInDim S256x14336 ![] Facts.bcast_S_S256x14336 (constant S_ .f32 b)) i
      = Ideal.cmp .ole (max (x i : EReal) (-(x i : EReal))) (Ideal.ofBits .f32 b) := rfl
theorem ge_gen (x : FVec Ideal S256x14336 .f32) (b : BitVec 32) (i : S256x14336.Idx) :
    cmpf .oge x (broadcastInDim S256x14336 ![] Facts.bcast_S_S256x14336 (constant S_ .f32 b)) i
      = Ideal.cmp .oge (x i : EReal) (Ideal.ofBits .f32 b) := rfl
theorem and_gen (x y : IVec S256x14336 1) (i : S256x14336.Idx) : andi x y i = x i &&& y i := rfl
theorem ext_gen (x : FVec Ideal S256x14336 .bf16) (i : S256x14336.Idx) : (extf .f32 x Facts.bitsLt_bf16_f32 : FVec Ideal S256x14336 .f32) i = x i := rfl

theorem and_one (x y : BitVec 1) (h : x &&& y = 1#1) : x = 1#1 ∧ y = 1#1 := by
  revert x y; decide

theorem zero_val : Ideal.ofBits .f32 0x00000000#32 = (0 : EReal) := by
  simp [Ideal.ofBits, Ideal.ieee]
theorem p64_val : Ideal.ofBits .f32 0x5F800000#32 = ((2 ^ 64 : ℝ) : EReal) := by
  simp [Ideal.ofBits, Ideal.ieee]
  rw [← EReal.coe_pow, ← EReal.coe_pow, ← EReal.coe_mul]; norm_num
theorem p100_val : Ideal.ofBits .f32 0x71800000#32 = ((2 ^ 100 : ℝ) : EReal) := by
  simp [Ideal.ofBits, Ideal.ieee]
  rw [← EReal.coe_pow, ← EReal.coe_pow, ← EReal.coe_mul]; norm_num

theorem cmp_le (x y : EReal) (h : Ideal.cmp .ole x y = 1#1) : x ≤ y := by
  by_contra hc
  have : Ideal.cmp .ole x y = BitVec.ofBool (decide (x ≤ y)) := rfl
  rw [this, decide_eq_false hc] at h
  exact absurd h (by decide)
theorem cmp_ge (x y : EReal) (h : Ideal.cmp .oge x y = 1#1) : y ≤ x := by
  by_contra hc
  have : Ideal.cmp .oge x y = BitVec.ofBool (decide (y ≤ x)) := rfl
  rw [this, decide_eq_false hc] at h
  exact absurd h (by decide)

theorem real_of_abs (x : EReal) (B : ℝ) (h : max x (-x) ≤ (B : EReal)) : ∃ r : ℝ, x = (r : EReal) ∧ |r| ≤ B := by
  obtain ⟨h1, h2⟩ := max_le_iff.mp h
  induction x using EReal.rec with
  | bot => rw [EReal.neg_bot] at h2; exact absurd h2 (not_le.mpr (EReal.coe_lt_top B))
  | top => exact absurd h1 (not_le.mpr (EReal.coe_lt_top B))
  | coe r =>
    refine ⟨r, rfl, abs_le.mpr ⟨?_, by exact_mod_cast h1⟩⟩
    rw [← EReal.coe_neg] at h2
    have : -r ≤ B := by exact_mod_cast h2
    linarith

/-- The precondition at an element. -/
theorem pre_at (a0 : FVec Ideal S28x256x14336 .fp8e5m2) (a1 : FVec Ideal S28x256x112 .f32) (a2 a3 : FVec Ideal S256x14336 .bf16) (a4 a5 : FVec Ideal S256x14336 .f32)
    (h : fn (F := Ideal) a0 a1 a2 a3 a4 a5 = fun _ => 1#1) (i : S256x14336.Idx) :
    (0 : EReal) ≤ a5 i ∧ (∃ r : ℝ, (a4 i : EReal) = (r : EReal) ∧ |r| ≤ 2 ^ 64)
      ∧ (∃ r : ℝ, (a2 i : EReal) = (r : EReal) ∧ |r| ≤ 2 ^ 100) ∧ (∃ r : ℝ, (a3 i : EReal) = (r : EReal) ∧ |r| ≤ 2 ^ 100) := by
  have h' := congrFun h i
  unfold fn at h'
  simp only [and_gen] at h'
  obtain ⟨h', h3⟩ := and_one _ _ h'
  obtain ⟨h', h2⟩ := and_one _ _ h'
  obtain ⟨h0, h1⟩ := and_one _ _ h'
  rw [le_gen] at h1 h2 h3
  rw [ge_gen] at h0
  rw [ext_gen] at h2 h3
  have h0 := cmp_ge _ _ h0
  have h1 := cmp_le _ _ h1
  have h2 := cmp_le _ _ h2
  have h3 := cmp_le _ _ h3
  rw [zero_val] at h0
  rw [p64_val] at h1
  rw [p100_val] at h2 h3
  exact ⟨h0, real_of_abs _ _ h1, real_of_abs _ _ h2, real_of_abs _ _ h3⟩

/-- Every new parameter is a moderate real number. -/
theorem Pat_bound (a0 : FVec Ideal S28x256x14336 .fp8e5m2) (a1 : FVec Ideal S28x256x112 .f32) (a2 a3 : FVec Ideal S256x14336 .bf16) (a4 a5 : FVec Ideal S256x14336 .f32)
    (h : fn (F := Ideal) a0 a1 a2 a3 a4 a5 = fun _ => 1#1) (R : Fin 256) (C : Fin 14336) :
    ∃ q : ℝ, Pat a0 a1 a2 a3 a4 a5 R C = (q : EReal) ∧ |q| ≤ 2 ^ 103 := by
  obtain ⟨hv, ⟨m, hm, bm⟩, ⟨x, hx, bx⟩, ⟨y, hy, by'⟩⟩ := pre_at a0 a1 a2 a3 a4 a5 h (ix2 R C)
  have hw : |x + y| ≤ 2 ^ 101 := by
    refine (abs_add_le x y).trans ?_
    have : (2 : ℝ) ^ 101 = 2 ^ 100 + 2 ^ 100 := by norm_num
    rw [this]; exact add_le_add bx by'
  have hb := p_bound (rG (gsum a0 a1 R C)) (a5 (ix2 R C)) m (x + y) bm hv hw
  have ew : Wat a2 a3 R C = ((x + y : ℝ) : EReal) := by
    unfold Wat
    rw [EReal.coe_add, ← hx, ← hy]
  unfold Pat Uat Mat Vat
  rw [ew, hm]
  exact hb

end Cert.OwnP

end
-- ==== Proof.lean ====
module

public import proofs.«01_k».proof.Proof.KFrame
public import proofs.«01_k».proof.Proof.Ends
public import proofs.«01_k».proof.Proof.PreV
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_moderate
public import Idealize.ShloMosaic.Adequacy
public import Idealize.ShloMosaic.Init

@[expose] public section

noncomputable section

namespace Cert.Proof

open Idealize.ShloMosaic Idealize.SL.Sem Cert.Kernel

/-- Each named constant is the number its bits round. -/
theorem preserves : preserves_Kernel_KernelIdeal :=
  ⟨IdealRules.named_const.statement _ _ .f32 _ _ rfl, IdealRules.named_const.statement _ _ .f32 _ _ rfl,
    IdealRules.named_const.statement _ _ .f32 _ _ rfl, IdealRules.named_const.statement _ _ .f32 _ _ rfl,
    IdealRules.named_const.statement _ _ .f32 _ _ rfl⟩

/-- The two idealized programs end with equal results. -/
theorem algebraic : algebraic_KernelIdeal_ReferenceIdeal_pre_moderate := by
  intro m g m' g' hpre heq
  refine ⟨fun c => Cert.ReferenceIdeal.Value.G6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.ReferenceIdeal.Value.G7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.ReferenceIdeal.Value.G8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.ReferenceIdeal.Value.G9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.ReferenceIdeal.Value.G10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.ReferenceIdeal.Value.G11 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Cert.ReferenceIdeal.Value.G12 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.Own.run m g (fun c => Cert.OwnP.Pat_bound _ _ _ _ _ _ (hpre c)), ?_⟩
  refine (θ_run Cert.ReferenceIdeal.defs _ _).mono (fun r h c => ?_) (Cert.ReferenceIdeal.Value.run m' g')
  obtain ⟨h6, h7, h8, h9, h10, h11, h12, hk⟩ := h c
  obtain ⟨e0, e1, e2, e3, e4, e5⟩ := heq c
  rw [e0, e1, e2, e3, e4, e5] at h6 h7 h8 h9 h10 h11 h12
  exact ⟨h6, h7, h8, h9, h10, h11, h12, hk⟩

theorem claim : Cert.Claim := ⟨Cert.Kernel.Gen.facts, Cert.KernelIdeal.Gen.facts, Cert.ReferenceIdeal.Gen.facts, Cert.Pre_moderate.Gen.facts,
  fun m g _ => Cert.OwnK.frame m g, fun m g _ => Cert.Own.frame m g, fun m g _ => Cert.Own.frame m g,
  fun m g _ => Cert.ReferenceIdeal.Gen.frame m g, fun m g _ => Cert.ReferenceIdeal.Gen.frame m g, preserves, algebraic⟩

end Cert.Proof

end
